-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v16_0)) (v1 : (c : Dev Cert.Kernel5Ideal.nD) → Buf (Elt Ideal) ((c.tc : Thread Cert.Kernel5Ideal.nD Cert.Kernel5Ideal.τ).loc Cert.Kernel5Ideal.main_v16_1)) (v2 : (c : Dev Cert.Kernel5Ideal.nD) → Buf (Elt Ideal) ((c.tc : Thread Cert.Kernel5Ideal.nD Cert.Kernel5Ideal.τ).loc Cert.Kernel5Ideal.main_v16_2)) (v3 : (c : Dev Cert.Kernel5Ideal.nD) → Buf (Elt Ideal) ((c.tc : Thread Cert.Kernel5Ideal.nD Cert.Kernel5Ideal.τ).loc Cert.Kernel5Ideal.main_v16_3)) (v4 : (c : Dev Cert.Kernel5Ideal.nD) → Buf (Elt Ideal) ((c.tc : Thread Cert.Kernel5Ideal.nD Cert.Kernel5Ideal.τ).loc Cert.Kernel5Ideal.main_v16_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16_0) = v0 c
          ∧ r.2.mem ((c.tc : Thread Cert.Kernel5Ideal.nD Cert.Kernel5Ideal.τ).loc Cert.Kernel5Ideal.main_v16_1) = v1 c
          ∧ r.2.mem ((c.tc : Thread Cert.Kernel5Ideal.nD Cert.Kernel5Ideal.τ).loc Cert.Kernel5Ideal.main_v16_2) = v2 c
          ∧ r.2.mem ((c.tc : Thread Cert.Kernel5Ideal.nD Cert.Kernel5Ideal.τ).loc Cert.Kernel5Ideal.main_v16_3) = v3 c
          ∧ r.2.mem ((c.tc : Thread Cert.Kernel5Ideal.nD Cert.Kernel5Ideal.τ).loc Cert.Kernel5Ideal.main_v16_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_v27) = v2 c
          ∧ r.2.mem ((c.tc : Thread Cert.Reference5Ideal.nD Cert.Reference5Ideal.τ).loc Cert.Reference5Ideal.main_v28) = v3 c
          ∧ r.2.mem ((c.tc : Thread Cert.Reference5Ideal.nD Cert.Reference5Ideal.τ).loc Cert.Reference5Ideal.main_v29) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S4x4096x16x96 : Shape := ⟨4, ![4, 4096, 16, 96]⟩
abbrev S4x4096x16x64 : Shape := ⟨4, ![4, 4096, 16, 64]⟩
abbrev S_ : Shape := ⟨0, ![]⟩

class Facts : Prop where
  bcast_S_S4x4096x16x96 : S_.BroadcastsInDim S4x4096x16x96 (![] : Fin 0 → Fin S4x4096x16x96.rank)
  reducesTo_S4x4096x16x96_S_d0_1_2_3 : S4x4096x16x96.ReducesTo [0, 1, 2, 3] S_
  h_S_ : 0 < S_.numel

variable [Facts]

def fn {F : FTy → Type} [FloatOps F] (main_arg0 : FVec F S4x4096x16x96 .f32) (main_arg1 : FVec F S4x4096x16x96 .f32) (main_arg2 : FVec F S4x4096x16x64 .f32) : IVec S_ 1 :=
  let main_v0 : FVec F S4x4096x16x96 .f32 := Host.absf main_arg0
  let main_cst : FVec F S_ .f32 := constant S_ .f32 0x7F800000#32
  let main_v1 : FVec F S4x4096x16x96 .f32 := broadcastInDim S4x4096x16x96 ![] bcast_S_S4x4096x16x96 main_cst
  let main_v2 : IVec S4x4096x16x96 1 := cmpf .olt main_v0 main_v1
  let main_c : IVec S_ 1 := constantI S_ 1 1#1
  let main_v3 : IVec S_ 1 := (fun x v => Host.reduce IntOp.andi x v reducesTo_S4x4096x16x96_S_d0_1_2_3 h_S_) main_v2 main_c
  let main_v4 : FVec F S4x4096x16x96 .f32 := Host.absf main_arg1
  let main_cst_0 : FVec F S_ .f32 := constant S_ .f32 0x7F800000#32
  let main_v5 : FVec F S4x4096x16x96 .f32 := broadcastInDim S4x4096x16x96 ![] bcast_S_S4x4096x16x96 main_cst_0
  let main_v6 : IVec S4x4096x16x96 1 := cmpf .olt main_v4 main_v5
  let main_c_1 : IVec S_ 1 := constantI S_ 1 1#1
  let main_v7 : IVec S_ 1 := (fun x v => Host.reduce IntOp.andi x v reducesTo_S4x4096x16x96_S_d0_1_2_3 h_S_) main_v6 main_c_1
  let main_v8 : IVec S_ 1 := andi main_v3 main_v7
  main_v8
-- ==== Kernel.lean ====
abbrev S4x4096x16x96 : Shape := ⟨4, ![4, 4096, 16, 96]⟩
abbrev S4x4096x16x64 : Shape := ⟨4, ![4, 4096, 16, 64]⟩
abbrev S_ : Shape := ⟨0, ![]⟩
abbrev S1x1x1x128 : Shape := ⟨4, ![1, 1, 1, 128]⟩
abbrev S4x4096x16x128 : Shape := ⟨4, ![4, 4096, 16, 128]⟩
abbrev S4x4096x2048 : Shape := ⟨3, ![4, 4096, 2048]⟩
abbrev S4x4096x1024 : Shape := ⟨3, ![4, 4096, 1024]⟩
abbrev S1x1024x512 : Shape := ⟨3, ![1, 1024, 512]⟩
abbrev S1x4096x512 : Shape := ⟨3, ![1, 4096, 512]⟩
abbrev S1x1024x256 : Shape := ⟨3, ![1, 1024, 256]⟩
abbrev S1x1024x128 : Shape := ⟨3, ![1, 1024, 128]⟩
abbrev S1024x128 : Shape := ⟨2, ![1024, 128]⟩
abbrev S1024x1 : Shape := ⟨2, ![1024, 1]⟩
abbrev S1x512x128 : Shape := ⟨3, ![1, 512, 128]⟩
abbrev S512x128 : Shape := ⟨2, ![512, 128]⟩
abbrev S1024x512 : Shape := ⟨2, ![1024, 512]⟩
abbrev S1024 : Shape := ⟨1, ![1024]⟩
abbrev S512x1 : Shape := ⟨2, ![512, 1]⟩
abbrev S512x512 : Shape := ⟨2, ![512, 512]⟩
abbrev S512 : Shape := ⟨1, ![512]⟩

abbrev nBuf : Space → Nat
  | .hbm => 40
  | .vmem => 8
  | .smem => 0
  | _ => 0

abbrev bufTy : (tb : Table) → Fin (tcTables nBuf tb) → BufTy
  | .hbm, ⟨0, _⟩ => ⟨S4x4096x16x96, .f32⟩
  | .hbm, ⟨1, _⟩ => ⟨S4x4096x16x96, .f32⟩
  | .hbm, ⟨2, _⟩ => ⟨S4x4096x16x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1x1x128, .i32⟩
  | .hbm, ⟨11, _⟩ => ⟨S_, .i32⟩
  | .hbm, ⟨12, _⟩ => ⟨S1x1x1x128, .i32⟩
  | .hbm, ⟨13, _⟩ => ⟨S1x1x1x128, .i1⟩
  | .hbm, ⟨14, _⟩ => ⟨S_, .f32⟩
  | .hbm, ⟨15, _⟩ => ⟨S_, .f32⟩
  | .hbm, ⟨16, _⟩ => ⟨S1x1x1x128, .f32⟩
  | .hbm, ⟨17, _⟩ => ⟨S1x1x1x128, .f32⟩
  | .hbm, ⟨18, _⟩ => ⟨S1x1x1x128, .f32⟩
  | .hbm, ⟨19, _⟩ => ⟨S1x1x1x128, .f32⟩
  | .hbm, ⟨20, _⟩ => ⟨S4x4096x16x96, .f32⟩
  | .hbm, ⟨21, _⟩ => ⟨S4x4096x16x96, .f32⟩
  | .hbm, ⟨22, _⟩ => ⟨S_, .i32⟩
  | .hbm, ⟨23, _⟩ => ⟨S_, .f32⟩
  | .hbm, ⟨24, _⟩ => ⟨S4x4096x16x128, .f32⟩
  | .hbm, ⟨25, _⟩ => ⟨S4x4096x2048, .f32⟩
  | .hbm, ⟨26, _⟩ => ⟨S4x4096x2048, .bf16⟩
  | .hbm, ⟨27, _⟩ => ⟨S_, .i32⟩
  | .hbm, ⟨28, _⟩ => ⟨S_, .f32⟩
  | .hbm, ⟨29, _⟩ => ⟨S4x4096x16x128, .f32⟩
  | .hbm, ⟨30, _⟩ => ⟨S4x4096x2048, .f32⟩
  | .hbm, ⟨31, _⟩ => ⟨S4x4096x2048, .bf16⟩
  | .hbm, ⟨32, _⟩ => ⟨S_, .i32⟩
  | .hbm, ⟨33, _⟩ => ⟨S_, .f32⟩
  | .hbm, ⟨34, _⟩ => ⟨S4x4096x16x128, .f32⟩
  | .hbm, ⟨35, _⟩ => ⟨S4x4096x16x128, .f32⟩
  | .hbm, ⟨36, _⟩ => ⟨S4x4096x16x128, .f32⟩
  | .hbm, ⟨37, _⟩ => ⟨S4x4096x2048, .f32⟩
  | .hbm, ⟨38, _⟩ => ⟨S4x4096x2048, .bf16⟩
  | .hbm, ⟨39, _⟩ => ⟨S4x4096x1024, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x1024x256, .bf16⟩
  | .local _ .vmem, ⟨7, _⟩ => ⟨S1x1024x256, .bf16⟩
  | _, _ => ⟨S4x4096x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_cst_3 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_4 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_5 : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_6 : Ref sig .tc := ⟨.hbm, 32, rfl⟩
abbrev main_call3_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

@[reducible] def k0_t1_loop (i : grid0.Coords) : Scf.Loop 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_15 : BitVec 32 := 1#32
  ⟨c0_i32, v20, c1_i32_15⟩
def k0_mult1 (i : grid0.Coords) (k0_t1 : Fin (k0_t1_loop i).trips) : BitVec 32 :=
  let c0_i32 : BitVec 32 := 0#32
  let c1_i32_15 : BitVec 32 := 1#32
  let arg7 : BitVec 32 := Scf.iv c0_i32 c1_i32_15 k0_t1
  let c1024_i32_96 : BitVec 32 := 1024#32
  let v275 : BitVec 32 := Scalar.muli arg7 c1024_i32_96
  let c0_i32_97 : BitVec 32 := 0#32
  let v276 : BitVec 32 := Scalar.addi v275 c0_i32_97
  v276
def k0_off1 (i : grid0.Coords) (k0_t1 : Fin (k0_t1_loop i).trips) (c0_i32_97 : BitVec 32) : Fin 3 → Nat :=
  let c0_98 : Index := 0#32
  let c0_i32 : BitVec 32 := 0#32
  let c1_i32_15 : BitVec 32 := 1#32
  let arg7 : BitVec 32 := Scf.iv c0_i32 c1_i32_15 k0_t1
  let c1024_i32_96 : BitVec 32 := 1024#32
  let v275 : BitVec 32 := Scalar.muli arg7 c1024_i32_96
  let v276 : BitVec 32 := Scalar.addi v275 c0_i32_97
  let v277 : BitVec 32 := v276
  let v278 : Index := Scalar.indexCast v277
  let c0_99 : Index := 0#32
  ![0, v278.toNat, 0]
def k0_off2 (i : grid0.Coords) (k0_t1 : Fin (k0_t1_loop i).trips) (c0_i32_97 : BitVec 32) : Fin 3 → Nat :=
  let c0_101 : Index := 0#32
  let c0_i32 : BitVec 32 := 0#32
  let c1_i32_15 : BitVec 32 := 1#32
  let arg7 : BitVec 32 := Scf.iv c0_i32 c1_i32_15 k0_t1
  let c1024_i32_96 : BitVec 32 := 1024#32
  let v275 : BitVec 32 := Scalar.muli arg7 c1024_i32_96
  let v276 : BitVec 32 := Scalar.addi v275 c0_i32_97
  let v277 : BitVec 32 := v276
  let v282 : Index := Scalar.indexCast v277
  let c128_102 : Index := 128#32
  ![0, v282.toNat, 128]
def k0_off3 (i : grid0.Coords) (k0_t1 : Fin (k0_t1_loop i).trips) (c0_i32_97 : BitVec 32) : Fin 3 → Nat :=
  let c0_104 : Index := 0#32
  let c0_i32 : BitVec 32 := 0#32
  let c1_i32_15 : BitVec 32 := 1#32
  let arg7 : BitVec 32 := Scf.iv c0_i32 c1_i32_15 k0_t1
  let c1024_i32_96 : BitVec 32 := 1024#32
  let v275 : BitVec 32 := Scalar.muli arg7 c1024_i32_96
  let v276 : BitVec 32 := Scalar.addi v275 c0_i32_97
  let v277 : BitVec 32 := v276
  let v286 : Index := Scalar.indexCast v277
  let c256_105 : Index := 256#32
  ![0, v286.toNat, 256]
def k0_off4 (i : grid0.Coords) (k0_t1 : Fin (k0_t1_loop i).trips) (c0_i32_97 : BitVec 32) : Fin 3 → Nat :=
  let c0_107 : Index := 0#32
  let c0_i32 : BitVec 32 := 0#32
  let c1_i32_15 : BitVec 32 := 1#32
  let arg7 : BitVec 32 := Scf.iv c0_i32 c1_i32_15 k0_t1
  let c1024_i32_96 : BitVec 32 := 1024#32
  let v275 : BitVec 32 := Scalar.muli arg7 c1024_i32_96
  let v276 : BitVec 32 := Scalar.addi v275 c0_i32_97
  let v277 : BitVec 32 := v276
  let v290 : Index := Scalar.indexCast v277
  let c384_108 : Index := 384#32
  ![0, v290.toNat, 384]
def k0_mult2 (i : grid0.Coords) (k0_t1 : Fin (k0_t1_loop i).trips) : BitVec 32 :=
  let c0_i32 : BitVec 32 := 0#32
  let c1_i32_15 : BitVec 32 := 1#32
  let arg7 : BitVec 32 := Scf.iv c0_i32 c1_i32_15 k0_t1
  let c1024_i32_126 : BitVec 32 := 1024#32
  let v358 : BitVec 32 := Scalar.muli arg7 c1024_i32_126
  let c512_i32_127 : BitVec 32 := 512#32
  let v359 : BitVec 32 := Scalar.addi v358 c512_i32_127
  v359
@[reducible] def k0_t2_loop (i : grid0.Coords) : Scf.Loop 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let v17 : BitVec 32 := Scalar.addi c0_i32 v16
  let c1_i32_16 : BitVec 32 := 1#32
  ⟨v20, v17, c1_i32_16⟩
def k0_mult3 (i : grid0.Coords) (k0_t2 : Fin (k0_t2_loop i).trips) : BitVec 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let c1024_i32_96 : BitVec 32 := 1024#32
  let v275 : BitVec 32 := Scalar.muli arg7 c1024_i32_96
  let c0_i32_97 : BitVec 32 := 0#32
  let v276 : BitVec 32 := Scalar.addi v275 c0_i32_97
  v276
def k0_off5 (i : grid0.Coords) (k0_t2 : Fin (k0_t2_loop i).trips) (c0_i32_97 : BitVec 32) : Fin 3 → Nat :=
  let c0_98 : Index := 0#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let c1024_i32_96 : BitVec 32 := 1024#32
  let v275 : BitVec 32 := Scalar.muli arg7 c1024_i32_96
  let v276 : BitVec 32 := Scalar.addi v275 c0_i32_97
  let v277 : BitVec 32 := v276
  let v278 : Index := Scalar.indexCast v277
  let c0_99 : Index := 0#32
  ![0, v278.toNat, 0]
def k0_off6 (i : grid0.Coords) (k0_t2 : Fin (k0_t2_loop i).trips) (c0_i32_97 : BitVec 32) : Fin 3 → Nat :=
  let c0_101 : Index := 0#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let c1024_i32_96 : BitVec 32 := 1024#32
  let v275 : BitVec 32 := Scalar.muli arg7 c1024_i32_96
  let v276 : BitVec 32 := Scalar.addi v275 c0_i32_97
  let v277 : BitVec 32 := v276
  let v282 : Index := Scalar.indexCast v277
  let c128_102 : Index := 128#32
  ![0, v282.toNat, 128]
def k0_off7 (i : grid0.Coords) (k0_t2 : Fin (k0_t2_loop i).trips) (c0_i32_97 : BitVec 32) : Fin 3 → Nat :=
  let c0_104 : Index := 0#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let c1024_i32_96 : BitVec 32 := 1024#32
  let v275 : BitVec 32 := Scalar.muli arg7 c1024_i32_96
  let v276 : BitVec 32 := Scalar.addi v275 c0_i32_97
  let v277 : BitVec 32 := v276
  let v286 : Index := Scalar.indexCast v277
  let c256_105 : Index := 256#32
  ![0, v286.toNat, 256]
def k0_off8 (i : grid0.Coords) (k0_t2 : Fin (k0_t2_loop i).trips) (c0_i32_97 : BitVec 32) : Fin 3 → Nat :=
  let c0_107 : Index := 0#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let c1024_i32_96 : BitVec 32 := 1024#32
  let v275 : BitVec 32 := Scalar.muli arg7 c1024_i32_96
  let v276 : BitVec 32 := Scalar.addi v275 c0_i32_97
  let v277 : BitVec 32 := v276
  let v290 : Index := Scalar.indexCast v277
  let c384_108 : Index := 384#32
  ![0, v290.toNat, 384]
def k0_mult4 (i : grid0.Coords) (k0_t2 : Fin (k0_t2_loop i).trips) : BitVec 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let c1024_i32_126 : BitVec 32 := 1024#32
  let v358 : BitVec 32 := Scalar.muli arg7 c1024_i32_126
  let c512_i32_127 : BitVec 32 := 512#32
  let v359 : BitVec 32 := Scalar.addi v358 c512_i32_127
  v359
def k0_mult5 (i : grid0.Coords) : BitVec 32 :=
  let arg2 : BitVec 32 := BitVec.ofNat 32 (i 2).val
  let c1024_i32 : BitVec 32 := 1024#32
  let v23 : BitVec 32 := Scalar.muli arg2 c1024_i32
  v23
def k0_off9 (i : grid0.Coords) : Fin 3 → Nat :=
  let c0_17 : Index := 0#32
  let arg2 : BitVec 32 := BitVec.ofNat 32 (i 2).val
  let c1024_i32 : BitVec 32 := 1024#32
  let v23 : BitVec 32 := Scalar.muli arg2 c1024_i32
  let v24 : BitVec 32 := v23
  let v28 : Index := Scalar.indexCast v24
  let c0_18 : Index := 0#32
  ![0, v28.toNat, 0]
def k0_off10 (i : grid0.Coords) : Fin 3 → Nat :=
  let c0_20 : Index := 0#32
  let arg2 : BitVec 32 := BitVec.ofNat 32 (i 2).val
  let c1024_i32 : BitVec 32 := 1024#32
  let v23 : BitVec 32 := Scalar.muli arg2 c1024_i32
  let v24 : BitVec 32 := v23
  let v32 : Index := Scalar.indexCast v24
  let c128_21 : Index := 128#32
  ![0, v32.toNat, 128]
def k0_off11 (i : grid0.Coords) : Fin 3 → Nat :=
  let c0_23 : Index := 0#32
  let arg2 : BitVec 32 := BitVec.ofNat 32 (i 2).val
  let c1024_i32 : BitVec 32 := 1024#32
  let v23 : BitVec 32 := Scalar.muli arg2 c1024_i32
  let v24 : BitVec 32 := v23
  let v36 : Index := Scalar.indexCast v24
  let c256_24 : Index := 256#32
  ![0, v36.toNat, 256]
def k0_off12 (i : grid0.Coords) : Fin 3 → Nat :=
  let c0_26 : Index := 0#32
  let arg2 : BitVec 32 := BitVec.ofNat 32 (i 2).val
  let c1024_i32 : BitVec 32 := 1024#32
  let v23 : BitVec 32 := Scalar.muli arg2 c1024_i32
  let v24 : BitVec 32 := v23
  let v40 : Index := Scalar.indexCast v24
  let c384_27 : Index := 384#32
  ![0, v40.toNat, 384]
def k0_off13 (i : grid0.Coords) : Fin 3 → Nat :=
  let c0_49 : Index := 0#32
  let arg2 : BitVec 32 := BitVec.ofNat 32 (i 2).val
  let c1024_i32 : BitVec 32 := 1024#32
  let v23 : BitVec 32 := Scalar.muli arg2 c1024_i32
  let v24 : BitVec 32 := v23
  let c512_i32 : BitVec 32 := 512#32
  let v128 : BitVec 32 := Scalar.addi v24 c512_i32
  let v132 : Index := Scalar.indexCast v128
  let c0_50 : Index := 0#32
  ![0, v132.toNat, 0]
def k0_off14 (i : grid0.Coords) : Fin 3 → Nat :=
  let c0_52 : Index := 0#32
  let arg2 : BitVec 32 := BitVec.ofNat 32 (i 2).val
  let c1024_i32 : BitVec 32 := 1024#32
  let v23 : BitVec 32 := Scalar.muli arg2 c1024_i32
  let v24 : BitVec 32 := v23
  let c512_i32 : BitVec 32 := 512#32
  let v128 : BitVec 32 := Scalar.addi v24 c512_i32
  let v136 : Index := Scalar.indexCast v128
  let c128_53 : Index := 128#32
  ![0, v136.toNat, 128]
def k0_off15 (i : grid0.Coords) : Fin 3 → Nat :=
  let c0_55 : Index := 0#32
  let arg2 : BitVec 32 := BitVec.ofNat 32 (i 2).val
  let c1024_i32 : BitVec 32 := 1024#32
  let v23 : BitVec 32 := Scalar.muli arg2 c1024_i32
  let v24 : BitVec 32 := v23
  let c512_i32 : BitVec 32 := 512#32
  let v128 : BitVec 32 := Scalar.addi v24 c512_i32
  let v140 : Index := Scalar.indexCast v128
  let c256_56 : Index := 256#32
  ![0, v140.toNat, 256]
def k0_off16 (i : grid0.Coords) : Fin 3 → Nat :=
  let c0_58 : Index := 0#32
  let arg2 : BitVec 32 := BitVec.ofNat 32 (i 2).val
  let c1024_i32 : BitVec 32 := 1024#32
  let v23 : BitVec 32 := Scalar.muli arg2 c1024_i32
  let v24 : BitVec 32 := v23
  let c512_i32 : BitVec 32 := 512#32
  let v128 : BitVec 32 := Scalar.addi v24 c512_i32
  let v144 : Index := Scalar.indexCast v128
  let c384_59 : Index := 384#32
  ![0, v144.toNat, 384]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x4096x16x96 : Shape := ⟨4, ![4, 4096, 16, 96]⟩
abbrev S4x4096x16x64 : Shape := ⟨4, ![4, 4096, 16, 64]⟩
abbrev S4096 : Shape := ⟨1, ![4096]⟩
abbrev S4x16x4096x4096 : Shape := ⟨4, ![4, 16, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x16x4096 : Shape := ⟨3, ![4, 16, 4096]⟩
abbrev S4x16x4096x1 : Shape := ⟨4, ![4, 16, 4096, 1]⟩
abbrev S4x16x64x4096 : Shape := ⟨4, ![4, 16, 64, 4096]⟩
abbrev S4x4096x1024 : Shape := ⟨3, ![4, 4096, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x16x96, .f32⟩
  | .hbm, ⟨1, _⟩ => ⟨S4x4096x16x96, .f32⟩
  | .hbm, ⟨2, _⟩ => ⟨S4x4096x16x64, .f32⟩
  | .hbm, ⟨3, _⟩ => ⟨S4096, .i32⟩
  | .hbm, ⟨4, _⟩ => ⟨S4096, .i32⟩
  | .hbm, ⟨5, _⟩ => ⟨S4x16x4096x4096, .f32⟩
  | .hbm, ⟨6, _⟩ => ⟨S_, .f32⟩
  | .hbm, ⟨7, _⟩ => ⟨S_, .f32⟩
  | .hbm, ⟨8, _⟩ => ⟨S4x16x4096x4096, .f32⟩
  | .hbm, ⟨9, _⟩ => ⟨S4x16x4096x4096, .f32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S4x16x4096x4096, .i1⟩
  | .hbm, ⟨18, _⟩ => ⟨S4x16x4096x4096, .f32⟩
  | .hbm, ⟨19, _⟩ => ⟨S4x16x4096x4096, .f32⟩
  | .hbm, ⟨20, _⟩ => ⟨S_, .f32⟩
  | .hbm, ⟨21, _⟩ => ⟨S4x16x4096, .f32⟩
  | .hbm, ⟨22, _⟩ => ⟨S_, .f32⟩
  | .hbm, ⟨23, _⟩ => ⟨S4x16x4096, .f32⟩
  | .hbm, ⟨24, _⟩ => ⟨S4x16x4096, .f32⟩
  | .hbm, ⟨25, _⟩ => ⟨S4x16x4096x1, .f32⟩
  | .hbm, ⟨26, _⟩ => ⟨S4x16x4096x4096, .f32⟩
  | .hbm, ⟨27, _⟩ => ⟨S4x16x4096x4096, .f32⟩
  | .hbm, ⟨28, _⟩ => ⟨S4x16x4096x4096, .f32⟩
  | .hbm, ⟨29, _⟩ => ⟨S_, .f32⟩
  | .hbm, ⟨30, _⟩ => ⟨S4x16x4096, .f32⟩
  | .hbm, ⟨31, _⟩ => ⟨S4x16x4096x1, .f32⟩
  | .hbm, ⟨32, _⟩ => ⟨S4x16x4096x4096, .f32⟩
  | .hbm, ⟨33, _⟩ => ⟨S4x16x4096x4096, .f32⟩
  | .hbm, ⟨34, _⟩ => ⟨S4x16x64x4096, .f32⟩
  | .hbm, ⟨35, _⟩ => ⟨S4x4096x16x64, .f32⟩
  | .hbm, ⟨36, _⟩ => ⟨S4x4096x1024, .f32⟩
  | .hbm, ⟨37, _⟩ => ⟨S4x4096x1024, .bf16⟩
  | _, _ => ⟨S4x4096x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x16x64 : Shape := ⟨4, ![4, 4096, 16, 64]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x11x256x1024 : Shape := ⟨4, ![2, 11, 256, 1024]⟩
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S1x1024x5632 : Shape := ⟨3, ![1, 1024, 5632]⟩
abbrev S1x11x256x1024 : Shape := ⟨4, ![1, 11, 256, 1024]⟩
abbrev S1024x1 : Shape := ⟨2, ![1024, 1]⟩
abbrev S1x1024x256 : Shape := ⟨3, ![1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 18
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x4096x16x64, .f32⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S2x1024x5632, .bf16⟩
  | .hbm, ⟨7, _⟩ => ⟨S2x11x256x1024, .f32⟩
  | .hbm, ⟨8, _⟩ => ⟨S2x11x256x1024, .bf16⟩
  | .hbm, ⟨9, _⟩ => ⟨S16384x1024, .f32⟩
  | .hbm, ⟨10, _⟩ => ⟨S16384x1024, .bf16⟩
  | .hbm, ⟨11, _⟩ => ⟨S16384x1024, .f32⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024x5632, .bf16⟩
  | .local _ .vmem, ⟨7, _⟩ => ⟨S1x11x256x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c256_i32 : BitVec 32 := 256#32
  let v28 : BitVec 32 := Scalar.muli c0_i32 c256_i32
  v28
def k0_off1 (c0_i32 : BitVec 32) : Fin 3 → Nat :=
  let c0_16 : Index := 0#32
  let c0_17 : Index := 0#32
  let c256_i32 : BitVec 32 := 256#32
  let v28 : BitVec 32 := Scalar.muli c0_i32 c256_i32
  let v29 : BitVec 32 := v28
  let v30 : Index := Scalar.indexCast v29
  ![0, 0, v30.toNat]
def k0_off2 (c0_i32 : BitVec 32) : Fin 3 → Nat :=
  let c0_19 : Index := 0#32
  let c0_20 : Index := 0#32
  let c2816_i32 : BitVec 32 := 2816#32
  let c256_i32 : BitVec 32 := 256#32
  let v28 : BitVec 32 := Scalar.muli c0_i32 c256_i32
  let v29 : BitVec 32 := v28
  let v34 : BitVec 32 := Scalar.addi c2816_i32 v29
  let v35 : Index := Scalar.indexCast v34
  ![0, 0, v35.toNat]
def k0_mult2 : BitVec 32 :=
  let c1_i32 : BitVec 32 := 1#32
  let c256_i32_35 : BitVec 32 := 256#32
  let v58 : BitVec 32 := Scalar.muli c1_i32 c256_i32_35
  v58
def k0_mult3 : BitVec 32 :=
  let c2_i32 : BitVec 32 := 2#32
  let c256_i32_56 : BitVec 32 := 256#32
  let v88 : BitVec 32 := Scalar.muli c2_i32 c256_i32_56
  v88
def k0_mult4 : BitVec 32 :=
  let c3_i32 : BitVec 32 := 3#32
  let c256_i32_77 : BitVec 32 := 256#32
  let v118 : BitVec 32 := Scalar.muli c3_i32 c256_i32_77
  v118
def k0_mult5 : BitVec 32 :=
  let c4_i32 : BitVec 32 := 4#32
  let c256_i32_98 : BitVec 32 := 256#32
  let v148 : BitVec 32 := Scalar.muli c4_i32 c256_i32_98
  v148
def k0_mult6 : BitVec 32 :=
  let c5_i32 : BitVec 32 := 5#32
  let c256_i32_119 : BitVec 32 := 256#32
  let v178 : BitVec 32 := Scalar.muli c5_i32 c256_i32_119
  v178
def k0_mult7 : BitVec 32 :=
  let c6_i32 : BitVec 32 := 6#32
  let c256_i32_140 : BitVec 32 := 256#32
  let v208 : BitVec 32 := Scalar.muli c6_i32 c256_i32_140
  v208
def k0_mult8 : BitVec 32 :=
  let c7_i32 : BitVec 32 := 7#32
  let c256_i32_161 : BitVec 32 := 256#32
  let v238 : BitVec 32 := Scalar.muli c7_i32 c256_i32_161
  v238
def k0_mult9 : BitVec 32 :=
  let c8_i32 : BitVec 32 := 8#32
  let c256_i32_182 : BitVec 32 := 256#32
  let v268 : BitVec 32 := Scalar.muli c8_i32 c256_i32_182
  v268
def k0_mult10 : BitVec 32 :=
  let c9_i32 : BitVec 32 := 9#32
  let c256_i32_203 : BitVec 32 := 256#32
  let v298 : BitVec 32 := Scalar.muli c9_i32 c256_i32_203
  v298
def k0_mult11 : BitVec 32 :=
  let c10_i32 : BitVec 32 := 10#32
  let c256_i32_224 : BitVec 32 := 256#32
  let v328 : BitVec 32 := Scalar.muli c10_i32 c256_i32_224
  v328
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x11x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel2Ideal.lean ====
abbrev S4x4096x1024 : Shape := ⟨3, ![4, 4096, 1024]⟩
abbrev S4x4096x16x64 : Shape := ⟨4, ![4, 4096, 16, 64]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x11x256x1024 : Shape := ⟨4, ![2, 11, 256, 1024]⟩
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S1x1024x5632 : Shape := ⟨3, ![1, 1024, 5632]⟩
abbrev S1x11x256x1024 : Shape := ⟨4, ![1, 11, 256, 1024]⟩
abbrev S1024x1 : Shape := ⟨2, ![1024, 1]⟩
abbrev S1x1024x256 : Shape := ⟨3, ![1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 18
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x4096x16x64, .f32⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S2x1024x5632, .bf16⟩
  | .hbm, ⟨7, _⟩ => ⟨S2x11x256x1024, .f32⟩
  | .hbm, ⟨8, _⟩ => ⟨S2x11x256x1024, .bf16⟩
  | .hbm, ⟨9, _⟩ => ⟨S16384x1024, .f32⟩
  | .hbm, ⟨10, _⟩ => ⟨S16384x1024, .bf16⟩
  | .hbm, ⟨11, _⟩ => ⟨S16384x1024, .f32⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024x5632, .bf16⟩
  | .local _ .vmem, ⟨7, _⟩ => ⟨S1x11x256x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c256_i32 : BitVec 32 := 256#32
  let v28 : BitVec 32 := Scalar.muli c0_i32 c256_i32
  v28
def k0_off1 (c0_i32 : BitVec 32) : Fin 3 → Nat :=
  let c0_16 : Index := 0#32
  let c0_17 : Index := 0#32
  let c256_i32 : BitVec 32 := 256#32
  let v28 : BitVec 32 := Scalar.muli c0_i32 c256_i32
  let v29 : BitVec 32 := v28
  let v30 : Index := Scalar.indexCast v29
  ![0, 0, v30.toNat]
def k0_off2 (c0_i32 : BitVec 32) : Fin 3 → Nat :=
  let c0_19 : Index := 0#32
  let c0_20 : Index := 0#32
  let c2816_i32 : BitVec 32 := 2816#32
  let c256_i32 : BitVec 32 := 256#32
  let v28 : BitVec 32 := Scalar.muli c0_i32 c256_i32
  let v29 : BitVec 32 := v28
  let v34 : BitVec 32 := Scalar.addi c2816_i32 v29
  let v35 : Index := Scalar.indexCast v34
  ![0, 0, v35.toNat]
def k0_mult2 : BitVec 32 :=
  let c1_i32 : BitVec 32 := 1#32
  let c256_i32_35 : BitVec 32 := 256#32
  let v58 : BitVec 32 := Scalar.muli c1_i32 c256_i32_35
  v58
def k0_mult3 : BitVec 32 :=
  let c2_i32 : BitVec 32 := 2#32
  let c256_i32_56 : BitVec 32 := 256#32
  let v88 : BitVec 32 := Scalar.muli c2_i32 c256_i32_56
  v88
def k0_mult4 : BitVec 32 :=
  let c3_i32 : BitVec 32 := 3#32
  let c256_i32_77 : BitVec 32 := 256#32
  let v118 : BitVec 32 := Scalar.muli c3_i32 c256_i32_77
  v118
def k0_mult5 : BitVec 32 :=
  let c4_i32 : BitVec 32 := 4#32
  let c256_i32_98 : BitVec 32 := 256#32
  let v148 : BitVec 32 := Scalar.muli c4_i32 c256_i32_98
  v148
def k0_mult6 : BitVec 32 :=
  let c5_i32 : BitVec 32 := 5#32
  let c256_i32_119 : BitVec 32 := 256#32
  let v178 : BitVec 32 := Scalar.muli c5_i32 c256_i32_119
  v178
def k0_mult7 : BitVec 32 :=
  let c6_i32 : BitVec 32 := 6#32
  let c256_i32_140 : BitVec 32 := 256#32
  let v208 : BitVec 32 := Scalar.muli c6_i32 c256_i32_140
  v208
def k0_mult8 : BitVec 32 :=
  let c7_i32 : BitVec 32 := 7#32
  let c256_i32_161 : BitVec 32 := 256#32
  let v238 : BitVec 32 := Scalar.muli c7_i32 c256_i32_161
  v238
def k0_mult9 : BitVec 32 :=
  let c8_i32 : BitVec 32 := 8#32
  let c256_i32_182 : BitVec 32 := 256#32
  let v268 : BitVec 32 := Scalar.muli c8_i32 c256_i32_182
  v268
def k0_mult10 : BitVec 32 :=
  let c9_i32 : BitVec 32 := 9#32
  let c256_i32_203 : BitVec 32 := 256#32
  let v298 : BitVec 32 := Scalar.muli c9_i32 c256_i32_203
  v298
def k0_mult11 : BitVec 32 :=
  let c10_i32 : BitVec 32 := 10#32
  let c256_i32_224 : BitVec 32 := 256#32
  let v328 : BitVec 32 := Scalar.muli c10_i32 c256_i32_224
  v328
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x11x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S4x4096x1024 : Shape := ⟨3, ![4, 4096, 1024]⟩
abbrev S4x4096x16x64 : Shape := ⟨4, ![4, 4096, 16, 64]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S16384x1024 : Shape := ⟨2, ![16384, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x16x64, .f32⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S4x4096x1024, .f32⟩
  | .hbm, ⟨7, _⟩ => ⟨S1024x1024, .f32⟩
  | .hbm, ⟨8, _⟩ => ⟨S4x4096x1024, .f32⟩
  | .hbm, ⟨9, _⟩ => ⟨S4x4096x1024, .f32⟩
  | .hbm, ⟨10, _⟩ => ⟨S1x1024, .f32⟩
  | .hbm, ⟨11, _⟩ => ⟨S1024, .f32⟩
  | .hbm, ⟨12, _⟩ => ⟨S1x1024x5632, .f32⟩
  | .hbm, ⟨13, _⟩ => ⟨S1024x5632, .f32⟩
  | .hbm, ⟨14, _⟩ => ⟨S1x2816x1024, .f32⟩
  | .hbm, ⟨15, _⟩ => ⟨S2816x1024, .f32⟩
  | .hbm, ⟨16, _⟩ => ⟨S4x4096x1024, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x1024, .f32⟩
  | .hbm, ⟨28, _⟩ => ⟨S4x4096x1024, .f32⟩
  | .hbm, ⟨29, _⟩ => ⟨S1x1x1024, .f32⟩
  | .hbm, ⟨30, _⟩ => ⟨S4x4096x1024, .f32⟩
  | .hbm, ⟨31, _⟩ => ⟨S4x4096x1024, .f32⟩
  | .hbm, ⟨32, _⟩ => ⟨S4x4096x5632, .f32⟩
  | .hbm, ⟨33, _⟩ => ⟨S4x4096x2816, .f32⟩
  | .hbm, ⟨34, _⟩ => ⟨S4x4096x2816, .f32⟩
  | .hbm, ⟨35, _⟩ => ⟨S4x4096x2816, .f32⟩
  | .hbm, ⟨36, _⟩ => ⟨S4x4096x2816, .f32⟩
  | .hbm, ⟨37, _⟩ => ⟨S_, .f32⟩
  | .hbm, ⟨38, _⟩ => ⟨S4x4096x2816, .f32⟩
  | .hbm, ⟨39, _⟩ => ⟨S4x4096x2816, .f32⟩
  | .hbm, ⟨40, _⟩ => ⟨S_, .f32⟩
  | .hbm, ⟨41, _⟩ => ⟨S4x4096x2816, .f32⟩
  | .hbm, ⟨42, _⟩ => ⟨S4x4096x2816, .f32⟩
  | .hbm, ⟨43, _⟩ => ⟨S4x4096x2816, .f32⟩
  | .hbm, ⟨44, _⟩ => ⟨S4x4096x2816, .f32⟩
  | .hbm, ⟨45, _⟩ => ⟨S4x4096x1024, .f32⟩
  | .hbm, ⟨46, _⟩ => ⟨S4x4096x1024, .f32⟩
  | .hbm, ⟨47, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x4x128 : Shape := ⟨4, ![4, 4096, 4, 128]⟩
abbrev S4x4096x512 : Shape := ⟨3, ![4, 4096, 512]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x11x256x1024 : Shape := ⟨4, ![2, 11, 256, 1024]⟩
abbrev S1024x1024 : Shape := ⟨2, ![1024, 1024]⟩
abbrev S16384x1024 : Shape := ⟨2, ![16384, 1024]⟩
abbrev S16384x512 : Shape := ⟨2, ![16384, 512]⟩
abbrev S512x1024 : Shape := ⟨2, ![512, 1024]⟩
abbrev S1x1024 : Shape := ⟨2, ![1, 1024]⟩
abbrev S1024 : Shape := ⟨1, ![1024]⟩
abbrev S1024x512 : Shape := ⟨2, ![1024, 512]⟩
abbrev S1x1024x5632 : Shape := ⟨3, ![1, 1024, 5632]⟩
abbrev S1x11x256x1024 : Shape := ⟨4, ![1, 11, 256, 1024]⟩
abbrev S1024x1 : Shape := ⟨2, ![1024, 1]⟩
abbrev S1x1024x256 : Shape := ⟨3, ![1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 23
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x4096x4x128, .f32⟩
  | .hbm, ⟨2, _⟩ => ⟨S4x4096x512, .f32⟩
  | .hbm, ⟨3, _⟩ => ⟨S1x1024x1024, .f32⟩
  | .hbm, ⟨4, _⟩ => ⟨S2x1024, .f32⟩
  | .hbm, ⟨5, _⟩ => ⟨S2x1024x5632, .f32⟩
  | .hbm, ⟨6, _⟩ => ⟨S2x2816x1024, .f32⟩
  | .hbm, ⟨7, _⟩ => ⟨S2x1024x5632, .bf16⟩
  | .hbm, ⟨8, _⟩ => ⟨S2x11x256x1024, .f32⟩
  | .hbm, ⟨9, _⟩ => ⟨S2x11x256x1024, .bf16⟩
  | .hbm, ⟨10, _⟩ => ⟨S1024x1024, .f32⟩
  | .hbm, ⟨11, _⟩ => ⟨S1024x1024, .bf16⟩
  | .hbm, ⟨12, _⟩ => ⟨S4x4096x4x128, .bf16⟩
  | .hbm, ⟨13, _⟩ => ⟨S4x4096x512, .bf16⟩
  | .hbm, ⟨14, _⟩ => ⟨S16384x1024, .f32⟩
  | .hbm, ⟨15, _⟩ => ⟨S16384x512, .bf16⟩
  | .hbm, ⟨16, _⟩ => ⟨S16384x512, .bf16⟩
  | .hbm, ⟨17, _⟩ => ⟨S512x1024, .bf16⟩
  | .hbm, ⟨18, _⟩ => ⟨S512x1024, .bf16⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024x5632, .bf16⟩
  | .local _ .vmem, ⟨10, _⟩ => ⟨S1x11x256x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c256_i32 : BitVec 32 := 256#32
  let v34 : BitVec 32 := Scalar.muli c0_i32 c256_i32
  v34
def k0_off1 (c0_i32 : BitVec 32) : Fin 3 → Nat :=
  let c0_21 : Index := 0#32
  let c0_22 : Index := 0#32
  let c256_i32 : BitVec 32 := 256#32
  let v34 : BitVec 32 := Scalar.muli c0_i32 c256_i32
  let v35 : BitVec 32 := v34
  let v36 : Index := Scalar.indexCast v35
  ![0, 0, v36.toNat]
def k0_off2 (c0_i32 : BitVec 32) : Fin 3 → Nat :=
  let c0_24 : Index := 0#32
  let c0_25 : Index := 0#32
  let c2816_i32 : BitVec 32 := 2816#32
  let c256_i32 : BitVec 32 := 256#32
  let v34 : BitVec 32 := Scalar.muli c0_i32 c256_i32
  let v35 : BitVec 32 := v34
  let v40 : BitVec 32 := Scalar.addi c2816_i32 v35
  let v41 : Index := Scalar.indexCast v40
  ![0, 0, v41.toNat]
def k0_mult2 : BitVec 32 :=
  let c1_i32 : BitVec 32 := 1#32
  let c256_i32_40 : BitVec 32 := 256#32
  let v64 : BitVec 32 := Scalar.muli c1_i32 c256_i32_40
  v64
def k0_mult3 : BitVec 32 :=
  let c2_i32 : BitVec 32 := 2#32
  let c256_i32_61 : BitVec 32 := 256#32
  let v94 : BitVec 32 := Scalar.muli c2_i32 c256_i32_61
  v94
def k0_mult4 : BitVec 32 :=
  let c3_i32 : BitVec 32 := 3#32
  let c256_i32_82 : BitVec 32 := 256#32
  let v124 : BitVec 32 := Scalar.muli c3_i32 c256_i32_82
  v124
def k0_mult5 : BitVec 32 :=
  let c4_i32 : BitVec 32 := 4#32
  let c256_i32_103 : BitVec 32 := 256#32
  let v154 : BitVec 32 := Scalar.muli c4_i32 c256_i32_103
  v154
def k0_mult6 : BitVec 32 :=
  let c5_i32 : BitVec 32 := 5#32
  let c256_i32_124 : BitVec 32 := 256#32
  let v184 : BitVec 32 := Scalar.muli c5_i32 c256_i32_124
  v184
def k0_mult7 : BitVec 32 :=
  let c6_i32 : BitVec 32 := 6#32
  let c256_i32_145 : BitVec 32 := 256#32
  let v214 : BitVec 32 := Scalar.muli c6_i32 c256_i32_145
  v214
def k0_mult8 : BitVec 32 :=
  let c7_i32 : BitVec 32 := 7#32
  let c256_i32_166 : BitVec 32 := 256#32
  let v244 : BitVec 32 := Scalar.muli c7_i32 c256_i32_166
  v244
def k0_mult9 : BitVec 32 :=
  let c8_i32 : BitVec 32 := 8#32
  let c256_i32_187 : BitVec 32 := 256#32
  let v274 : BitVec 32 := Scalar.muli c8_i32 c256_i32_187
  v274
def k0_mult10 : BitVec 32 :=
  let c9_i32 : BitVec 32 := 9#32
  let c256_i32_208 : BitVec 32 := 256#32
  let v304 : BitVec 32 := Scalar.muli c9_i32 c256_i32_208
  v304
def k0_mult11 : BitVec 32 :=
  let c10_i32 : BitVec 32 := 10#32
  let c256_i32_229 : BitVec 32 := 256#32
  let v334 : BitVec 32 := Scalar.muli c10_i32 c256_i32_229
  v334
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x11x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4x4096x1024 : Shape := ⟨3, ![4, 4096, 1024]⟩
abbrev S4x4096x4x128 : Shape := ⟨4, ![4, 4096, 4, 128]⟩
abbrev S4x4096x512 : Shape := ⟨3, ![4, 4096, 512]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S16384x1024 : Shape := ⟨2, ![16384, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x4x128, .f32⟩
  | .hbm, ⟨2, _⟩ => ⟨S4x4096x512, .f32⟩
  | .hbm, ⟨3, _⟩ => ⟨S1x1024x1024, .f32⟩
  | .hbm, ⟨4, _⟩ => ⟨S2x1024, .f32⟩
  | .hbm, ⟨5, _⟩ => ⟨S2x1024x5632, .f32⟩
  | .hbm, ⟨6, _⟩ => ⟨S2x2816x1024, .f32⟩
  | .hbm, ⟨7, _⟩ => ⟨S4x4096x512, .f32⟩
  | .hbm, ⟨8, _⟩ => ⟨S4x4096x1024, .f32⟩
  | .hbm, ⟨9, _⟩ => ⟨S1024x1024, .f32⟩
  | .hbm, ⟨10, _⟩ => ⟨S4x4096x1024, .f32⟩
  | .hbm, ⟨11, _⟩ => ⟨S4x4096x1024, .f32⟩
  | .hbm, ⟨12, _⟩ => ⟨S1x1024, .f32⟩
  | .hbm, ⟨13, _⟩ => ⟨S1024, .f32⟩
  | .hbm, ⟨14, _⟩ => ⟨S1x1024x5632, .f32⟩
  | .hbm, ⟨15, _⟩ => ⟨S1024x5632, .f32⟩
  | .hbm, ⟨16, _⟩ => ⟨S1x2816x1024, .f32⟩
  | .hbm, ⟨17, _⟩ => ⟨S2816x1024, .f32⟩
  | .hbm, ⟨18, _⟩ => ⟨S4x4096x1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x1024, .f32⟩
  | .hbm, ⟨30, _⟩ => ⟨S4x4096x1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S4x4096x5632, .f32⟩
  | .hbm, ⟨35, _⟩ => ⟨S4x4096x2816, .f32⟩
  | .hbm, ⟨36, _⟩ => ⟨S4x4096x2816, .f32⟩
  | .hbm, ⟨37, _⟩ => ⟨S4x4096x2816, .f32⟩
  | .hbm, ⟨38, _⟩ => ⟨S4x4096x2816, .f32⟩
  | .hbm, ⟨39, _⟩ => ⟨S_, .f32⟩
  | .hbm, ⟨40, _⟩ => ⟨S4x4096x2816, .f32⟩
  | .hbm, ⟨41, _⟩ => ⟨S4x4096x2816, .f32⟩
  | .hbm, ⟨42, _⟩ => ⟨S_, .f32⟩
  | .hbm, ⟨43, _⟩ => ⟨S4x4096x2816, .f32⟩
  | .hbm, ⟨44, _⟩ => ⟨S4x4096x2816, .f32⟩
  | .hbm, ⟨45, _⟩ => ⟨S4x4096x2816, .f32⟩
  | .hbm, ⟨46, _⟩ => ⟨S4x4096x2816, .f32⟩
  | .hbm, ⟨47, _⟩ => ⟨S4x4096x1024, .f32⟩
  | .hbm, ⟨48, _⟩ => ⟨S4x4096x1024, .f32⟩
  | .hbm, ⟨49, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Kernel4.lean ====
abbrev S128x1x1024 : Shape := ⟨3, ![128, 1, 1024]⟩
abbrev S128x1x16x64 : Shape := ⟨4, ![128, 1, 16, 64]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x11x256x1024 : Shape := ⟨4, ![2, 11, 256, 1024]⟩
abbrev S128x1024 : Shape := ⟨2, ![128, 1024]⟩
abbrev S1024x1024 : Shape := ⟨2, ![1024, 1024]⟩
abbrev S1x1024 : Shape := ⟨2, ![1, 1024]⟩
abbrev S1024 : Shape := ⟨1, ![1024]⟩
abbrev S1x1024x5632 : Shape := ⟨3, ![1, 1024, 5632]⟩
abbrev S1x11x256x1024 : Shape := ⟨4, ![1, 11, 256, 1024]⟩
abbrev S128 : Shape := ⟨1, ![128]⟩
abbrev S128x1 : Shape := ⟨2, ![128, 1]⟩
abbrev S1x1024x256 : Shape := ⟨3, ![1, 1024, 256]⟩
abbrev S1024x256 : Shape := ⟨2, ![1024, 256]⟩
abbrev S128x256 : Shape := ⟨2, ![128, 256]⟩
abbrev S1x1x256x1024 : Shape := ⟨4, ![1, 1, 256, 1024]⟩
abbrev S256x1024 : Shape := ⟨2, ![256, 1024]⟩

abbrev nBuf : Space → Nat
  | .hbm => 18
  | .vmem => 8
  | .smem => 0
  | _ => 0

abbrev bufTy : (tb : Table) → Fin (tcTables nBuf tb) → BufTy
  | .hbm, ⟨0, _⟩ => ⟨S128x1x1024, .f32⟩
  | .hbm, ⟨1, _⟩ => ⟨S128x1x16x64, .f32⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S2x1024x5632, .bf16⟩
  | .hbm, ⟨7, _⟩ => ⟨S2x11x256x1024, .f32⟩
  | .hbm, ⟨8, _⟩ => ⟨S2x11x256x1024, .bf16⟩
  | .hbm, ⟨9, _⟩ => ⟨S128x1024, .f32⟩
  | .hbm, ⟨10, _⟩ => ⟨S128x1024, .bf16⟩
  | .hbm, ⟨11, _⟩ => ⟨S128x1024, .f32⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S128x1024, .f32⟩
  | .local _ .vmem, ⟨0, _⟩ => ⟨S128x1024, .f32⟩
  | .local _ .vmem, ⟨1, _⟩ => ⟨S128x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024x5632, .bf16⟩
  | .local _ .vmem, ⟨5, _⟩ => ⟨S1x11x256x1024, .bf16⟩
  | .local _ .vmem, ⟨6, _⟩ => ⟨S128x1024, .f32⟩
  | .local _ .vmem, ⟨7, _⟩ => ⟨S128x1024, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_mult1 : BitVec 32 :=
  let c0_i32 : BitVec 32 := 0#32
  let c256_i32 : BitVec 32 := 256#32
  let v28 : BitVec 32 := Scalar.muli c0_i32 c256_i32
  v28
def k0_off1 (c0_i32 : BitVec 32) : Fin 3 → Nat :=
  let c0_16 : Index := 0#32
  let c0_17 : Index := 0#32
  let c256_i32 : BitVec 32 := 256#32
  let v28 : BitVec 32 := Scalar.muli c0_i32 c256_i32
  let v29 : BitVec 32 := v28
  let v30 : Index := Scalar.indexCast v29
  ![0, 0, v30.toNat]
def k0_off2 (c0_i32 : BitVec 32) : Fin 3 → Nat :=
  let c0_19 : Index := 0#32
  let c0_20 : Index := 0#32
  let c2816_i32 : BitVec 32 := 2816#32
  let c256_i32 : BitVec 32 := 256#32
  let v28 : BitVec 32 := Scalar.muli c0_i32 c256_i32
  let v29 : BitVec 32 := v28
  let v34 : BitVec 32 := Scalar.addi c2816_i32 v29
  let v35 : Index := Scalar.indexCast v34
  ![0, 0, v35.toNat]
def k0_mult2 : BitVec 32 :=
  let c1_i32 : BitVec 32 := 1#32
  let c256_i32_35 : BitVec 32 := 256#32
  let v58 : BitVec 32 := Scalar.muli c1_i32 c256_i32_35
  v58
def k0_mult3 : BitVec 32 :=
  let c2_i32 : BitVec 32 := 2#32
  let c256_i32_56 : BitVec 32 := 256#32
  let v88 : BitVec 32 := Scalar.muli c2_i32 c256_i32_56
  v88
def k0_mult4 : BitVec 32 :=
  let c3_i32 : BitVec 32 := 3#32
  let c256_i32_77 : BitVec 32 := 256#32
  let v118 : BitVec 32 := Scalar.muli c3_i32 c256_i32_77
  v118
def k0_mult5 : BitVec 32 :=
  let c4_i32 : BitVec 32 := 4#32
  let c256_i32_98 : BitVec 32 := 256#32
  let v148 : BitVec 32 := Scalar.muli c4_i32 c256_i32_98
  v148
def k0_mult6 : BitVec 32 :=
  let c5_i32 : BitVec 32 := 5#32
  let c256_i32_119 : BitVec 32 := 256#32
  let v178 : BitVec 32 := Scalar.muli c5_i32 c256_i32_119
  v178
def k0_mult7 : BitVec 32 :=
  let c6_i32 : BitVec 32 := 6#32
  let c256_i32_140 : BitVec 32 := 256#32
  let v208 : BitVec 32 := Scalar.muli c6_i32 c256_i32_140
  v208
def k0_mult8 : BitVec 32 :=
  let c7_i32 : BitVec 32 := 7#32
  let c256_i32_161 : BitVec 32 := 256#32
  let v238 : BitVec 32 := Scalar.muli c7_i32 c256_i32_161
  v238
def k0_mult9 : BitVec 32 :=
  let c8_i32 : BitVec 32 := 8#32
  let c256_i32_182 : BitVec 32 := 256#32
  let v268 : BitVec 32 := Scalar.muli c8_i32 c256_i32_182
  v268
def k0_mult10 : BitVec 32 :=
  let c9_i32 : BitVec 32 := 9#32
  let c256_i32_203 : BitVec 32 := 256#32
  let v298 : BitVec 32 := Scalar.muli c9_i32 c256_i32_203
  v298
def k0_mult11 : BitVec 32 :=
  let c10_i32 : BitVec 32 := 10#32
  let c256_i32_224 : BitVec 32 := 256#32
  let v328 : BitVec 32 := Scalar.muli c10_i32 c256_i32_224
  v328
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x11x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference4Ideal.lean ====
abbrev S128x1x1024 : Shape := ⟨3, ![128, 1, 1024]⟩
abbrev S128x1x16x64 : Shape := ⟨4, ![128, 1, 16, 64]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x5632 : Shape := ⟨3, ![128, 1, 5632]⟩
abbrev S128x1x2816 : Shape := ⟨3, ![128, 1, 2816]⟩
abbrev S128x1024 : Shape := ⟨2, ![128, 1024]⟩

abbrev nBuf : Space → Nat
  | .hbm => 48
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x16x64, .f32⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S128x1x1024, .f32⟩
  | .hbm, ⟨7, _⟩ => ⟨S1024x1024, .f32⟩
  | .hbm, ⟨8, _⟩ => ⟨S128x1x1024, .f32⟩
  | .hbm, ⟨9, _⟩ => ⟨S128x1x1024, .f32⟩
  | .hbm, ⟨10, _⟩ => ⟨S1x1024, .f32⟩
  | .hbm, ⟨11, _⟩ => ⟨S1024, .f32⟩
  | .hbm, ⟨12, _⟩ => ⟨S1x1024x5632, .f32⟩
  | .hbm, ⟨13, _⟩ => ⟨S1024x5632, .f32⟩
  | .hbm, ⟨14, _⟩ => ⟨S1x2816x1024, .f32⟩
  | .hbm, ⟨15, _⟩ => ⟨S2816x1024, .f32⟩
  | .hbm, ⟨16, _⟩ => ⟨S128x1x1024, .f32⟩
  | .hbm, ⟨17, _⟩ => ⟨S_, .f32⟩
  | .hbm, ⟨18, _⟩ => ⟨S128x1, .f32⟩
  | .hbm, ⟨19, _⟩ => ⟨S128x1x1, .f32⟩
  | .hbm, ⟨20, _⟩ => ⟨S_, .f32⟩
  | .hbm, ⟨21, _⟩ => ⟨S128x1x1, .f32⟩
  | .hbm, ⟨22, _⟩ => ⟨S128x1x1, .f32⟩
  | .hbm, ⟨23, _⟩ => ⟨S_, .f32⟩
  | .hbm, ⟨24, _⟩ => ⟨S128x1x1, .f32⟩
  | .hbm, ⟨25, _⟩ => ⟨S128x1x1, .f32⟩
  | .hbm, ⟨26, _⟩ => ⟨S128x1x1, .f32⟩
  | .hbm, ⟨27, _⟩ => ⟨S128x1x1024, .f32⟩
  | .hbm, ⟨28, _⟩ => ⟨S128x1x1024, .f32⟩
  | .hbm, ⟨29, _⟩ => ⟨S1x1x1024, .f32⟩
  | .hbm, ⟨30, _⟩ => ⟨S128x1x1024, .f32⟩
  | .hbm, ⟨31, _⟩ => ⟨S128x1x1024, .f32⟩
  | .hbm, ⟨32, _⟩ => ⟨S128x1x5632, .f32⟩
  | .hbm, ⟨33, _⟩ => ⟨S128x1x2816, .f32⟩
  | .hbm, ⟨34, _⟩ => ⟨S128x1x2816, .f32⟩
  | .hbm, ⟨35, _⟩ => ⟨S128x1x2816, .f32⟩
  | .hbm, ⟨36, _⟩ => ⟨S128x1x2816, .f32⟩
  | .hbm, ⟨37, _⟩ => ⟨S_, .f32⟩
  | .hbm, ⟨38, _⟩ => ⟨S128x1x2816, .f32⟩
  | .hbm, ⟨39, _⟩ => ⟨S128x1x2816, .f32⟩
  | .hbm, ⟨40, _⟩ => ⟨S_, .f32⟩
  | .hbm, ⟨41, _⟩ => ⟨S128x1x2816, .f32⟩
  | .hbm, ⟨42, _⟩ => ⟨S128x1x2816, .f32⟩
  | .hbm, ⟨43, _⟩ => ⟨S128x1x2816, .f32⟩
  | .hbm, ⟨44, _⟩ => ⟨S128x1x2816, .f32⟩
  | .hbm, ⟨45, _⟩ => ⟨S128x1x1024, .f32⟩
  | .hbm, ⟨46, _⟩ => ⟨S128x1x1024, .f32⟩
  | .hbm, ⟨47, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel5.lean ====
abbrev S4x4096x1024 : Shape := ⟨3, ![4, 4096, 1024]⟩
abbrev S1x1024 : Shape := ⟨2, ![1, 1024]⟩
abbrev S1x1024x3600 : Shape := ⟨3, ![1, 1024, 3600]⟩
abbrev S1024x3600 : Shape := ⟨2, ![1024, 3600]⟩
abbrev S1024x4 : Shape := ⟨2, ![1024, 4]⟩
abbrev S1024x8 : Shape := ⟨2, ![1024, 8]⟩
abbrev S1024x16 : Shape := ⟨2, ![1024, 16]⟩
abbrev S_ : Shape := ⟨0, ![]⟩
abbrev S1024x128 : Shape := ⟨2, ![1024, 128]⟩
abbrev S1024x1536 : Shape := ⟨2, ![1024, 1536]⟩
abbrev S1024x512 : Shape := ⟨2, ![1024, 512]⟩
abbrev S1024x1024 : Shape := ⟨2, ![1024, 1024]⟩
abbrev S16384x1024 : Shape := ⟨2, ![16384, 1024]⟩
abbrev S1024 : Shape := ⟨1, ![1024]⟩
abbrev S16384x1536 : Shape := ⟨2, ![16384, 1536]⟩
abbrev S16384x512 : Shape := ⟨2, ![16384, 512]⟩
abbrev S16384x128 : Shape := ⟨2, ![16384, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 26
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3600, .f32⟩
  | .hbm, ⟨3, _⟩ => ⟨S1024x3600, .f32⟩
  | .hbm, ⟨4, _⟩ => ⟨S1024x3600, .bf16⟩
  | .hbm, ⟨5, _⟩ => ⟨S1024x4, .bf16⟩
  | .hbm, ⟨6, _⟩ => ⟨S1024x4, .bf16⟩
  | .hbm, ⟨7, _⟩ => ⟨S1024x8, .bf16⟩
  | .hbm, ⟨8, _⟩ => ⟨S1024x16, .bf16⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x1536, .bf16⟩
  | .hbm, ⟨14, _⟩ => ⟨S1024x512, .bf16⟩
  | .hbm, ⟨15, _⟩ => ⟨S1024x512, .bf16⟩
  | .hbm, ⟨16, _⟩ => ⟨S1024x1024, .bf16⟩
  | .hbm, ⟨17, _⟩ => ⟨S1024x128, .bf16⟩
  | .hbm, ⟨18, _⟩ => ⟨S16384x1024, .f32⟩
  | .hbm, ⟨19, _⟩ => ⟨S1024, .f32⟩
  | .hbm, ⟨20, _⟩ => ⟨S1x1024, .f32⟩
  | .hbm, ⟨21, _⟩ => ⟨S16384x1536, .f32⟩
  | .hbm, ⟨22, _⟩ => ⟨S16384x512, .f32⟩
  | .hbm, ⟨23, _⟩ => ⟨S16384x512, .f32⟩
  | .hbm, ⟨24, _⟩ => ⟨S16384x1024, .f32⟩
  | .hbm, ⟨25, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x128, .bf16⟩
  | .local _ .vmem, ⟨8, _⟩ => ⟨S512x1536, .f32⟩
  | .local _ .vmem, ⟨9, _⟩ => ⟨S512x1536, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x1024, .f32⟩
  | .local _ .vmem, ⟨15, _⟩ => ⟨S512x1024, .f32⟩
  | .local _ .vmem, ⟨16, _⟩ => ⟨S512x128, .f32⟩
  | .local _ .vmem, ⟨17, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev main_v16_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S4x4096x1024 : Shape := ⟨3, ![4, 4096, 1024]⟩
abbrev S1x1024 : Shape := ⟨2, ![1, 1024]⟩
abbrev S1x1024x3600 : Shape := ⟨3, ![1, 1024, 3600]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3600 : Shape := ⟨2, ![1024, 3600]⟩
abbrev S4x4096x3600 : Shape := ⟨3, ![4, 4096, 3600]⟩
abbrev S4x4096x1536 : Shape := ⟨3, ![4, 4096, 1536]⟩
abbrev S4x4096x512 : Shape := ⟨3, ![4, 4096, 512]⟩
abbrev S4x4096x4 : Shape := ⟨3, ![4, 4096, 4]⟩
abbrev S4x4096x8 : Shape := ⟨3, ![4, 4096, 8]⟩
abbrev S4x4096x16 : Shape := ⟨3, ![4, 4096, 16]⟩
abbrev S4x4096x128 : Shape := ⟨3, ![4, 4096, 128]⟩
abbrev S16384x1536 : Shape := ⟨2, ![16384, 1536]⟩
abbrev S16384x512 : Shape := ⟨2, ![16384, 512]⟩
abbrev S16384x1024 : Shape := ⟨2, ![16384, 1024]⟩
abbrev S16384x128 : Shape := ⟨2, ![16384, 128]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3600, .f32⟩
  | .hbm, ⟨3, _⟩ => ⟨S1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x3600, .f32⟩
  | .hbm, ⟨21, _⟩ => ⟨S4x4096x3600, .f32⟩
  | .hbm, ⟨22, _⟩ => ⟨S4x4096x1536, .f32⟩
  | .hbm, ⟨23, _⟩ => ⟨S4x4096x512, .f32⟩
  | .hbm, ⟨24, _⟩ => ⟨S4x4096x4, .f32⟩
  | .hbm, ⟨25, _⟩ => ⟨S4x4096x4, .f32⟩
  | .hbm, ⟨26, _⟩ => ⟨S4x4096x512, .f32⟩
  | .hbm, ⟨27, _⟩ => ⟨S4x4096x1024, .f32⟩
  | .hbm, ⟨28, _⟩ => ⟨S4x4096x8, .f32⟩
  | .hbm, ⟨29, _⟩ => ⟨S4x4096x16, .f32⟩
  | .hbm, ⟨30, _⟩ => ⟨S_, .i32⟩
  | .hbm, ⟨31, _⟩ => ⟨S_, .f32⟩
  | .hbm, ⟨32, _⟩ => ⟨S4x4096x128, .f32⟩
  | .hbm, ⟨33, _⟩ => ⟨S16384x1536, .f32⟩
  | .hbm, ⟨34, _⟩ => ⟨S16384x512, .f32⟩
  | .hbm, ⟨35, _⟩ => ⟨S16384x512, .f32⟩
  | .hbm, ⟨36, _⟩ => ⟨S16384x1024, .f32⟩
  | .hbm, ⟨37, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Proof.FfnTiles.lean ====
/- The arithmetic of the residual feed-forward calls, for any number of rows in a block. -/
module

public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Ffn

/-- A block of rows of the residual stream. -/
abbrev Rows (M : ℕ) : Shape := ⟨2, ![M, 1024]⟩
/-- A layer's gate-and-up weights. -/
abbrev Gates : Shape := ⟨3, ![1, 1024, 5632]⟩
/-- 256 columns of them. -/
abbrev Cols : Shape := ⟨3, ![1, 1024, 256]⟩
/-- A layer's down weights, in eleven tiles of 256 rows. -/
abbrev Downs : Shape := ⟨4, ![1, 11, 256, 1024]⟩
/-- One of these tiles. -/
abbrev Down : Shape := ⟨4, ![1, 1, 256, 1024]⟩

/-- The hidden unit: the gate's `silu` times the value of the other half. -/
def hid (a b : EReal) : EReal := a * Ideal.div 1 (1 + Ideal.exp (0 - a)) * b

/-- A row of the residual stream with the projected attention output added. -/
def resid (x o : Fin 1024 → EReal) (w : Fin 1024 → Fin 1024 → EReal) (j : Fin 1024) : EReal := x j + ∑ k, o k * w k j

/-- A row of the residual stream with the projected outputs of the two mixers added. -/
def resid2 (x : Fin 1024 → EReal) (o : Fin 512 → EReal) (v : Fin 512 → Fin 1024 → EReal) (p : Fin 512 → EReal)
    (w : Fin 512 → Fin 1024 → EReal) (j : Fin 1024) : EReal := x j + ∑ k, o k * v k j + ∑ k, p k * w k j

/-- A row divided by the root of its mean square, times the gain. -/
def nrm (r g : Fin 1024 → EReal) (j : Fin 1024) : EReal :=
  r j * Ideal.rsqrt (Ideal.div (∑ d, r d * r d) (Ideal.ofBits .f32 1149239296#32) + Ideal.ofBits .f32 897988541#32) * g j

/-- One column of the gate-and-up product of a normalised row. -/
def gu (n : Fin 1024 → EReal) (w : Fin 1024 → Fin 5632 → EReal) (k : Fin 5632) : EReal := ∑ d, n d * w d k

/-- The row the layer returns: the residual row plus the product of the 2816 hidden units with the down weights. -/
def rowOut (r n : Fin 1024 → EReal) (w : Fin 1024 → Fin 5632 → EReal) (wd : Fin 2816 → Fin 1024 → EReal) (j : Fin 1024) : EReal :=
  r j + ∑ k : Fin 2816, hid (gu n w ⟨k.val, by omega⟩) (gu n w ⟨2816 + k.val, by omega⟩) * wd k j

/-- A sum over the hidden units, tile by tile. -/
theorem sum_tiles (f : Fin 2816 → EReal) : ∑ k, f k = ∑ c : Fin 11, ∑ l : Fin 256, f ⟨256 * c.val + l.val, by omega⟩ := by
  rw [← Fintype.sum_prod_type' (f := fun (c : Fin 11) (l : Fin 256) => f ⟨256 * c.val + l.val, by omega⟩)]
  refine (Fintype.sum_equiv (finProdFinEquiv (m := 11) (n := 256)) _ _ fun p => ?_).symm
  exact congrArg f (Fin.ext (Nat.add_comm _ _))

/-- Eleven terms added one after another to a first one. -/
theorem add_sum_eleven (a : EReal) (g : Fin 11 → EReal) :
    a + ∑ c, g c = a + g 0 + g 1 + g 2 + g 3 + g 4 + g 5 + g 6 + g 7 + g 8 + g 9 + g 10 := by
  have h : ∑ c, g c = g 0 + g 1 + g 2 + g 3 + g 4 + g 5 + g 6 + g 7 + g 8 + g 9 + g 10 := by
    simp only [Fin.sum_univ_castSucc, Fin.sum_univ_zero, zero_add]
    rfl
  rw [h]
  simp only [add_assoc]

/-- The same sum added to a first term, the eleven tiles written out. -/
theorem add_sum_tiles (a : EReal) (f : Fin 2816 → EReal) : a + ∑ k, f k = a + ∑ l : Fin 256, f ⟨0 + l.val, by omega⟩
      + ∑ l : Fin 256, f ⟨256 + l.val, by omega⟩
      + ∑ l : Fin 256, f ⟨512 + l.val, by omega⟩
      + ∑ l : Fin 256, f ⟨768 + l.val, by omega⟩
      + ∑ l : Fin 256, f ⟨1024 + l.val, by omega⟩
      + ∑ l : Fin 256, f ⟨1280 + l.val, by omega⟩
      + ∑ l : Fin 256, f ⟨1536 + l.val, by omega⟩
      + ∑ l : Fin 256, f ⟨1792 + l.val, by omega⟩
      + ∑ l : Fin 256, f ⟨2048 + l.val, by omega⟩
      + ∑ l : Fin 256, f ⟨2304 + l.val, by omega⟩
      + ∑ l : Fin 256, f ⟨2560 + l.val, by omega⟩ := by
  rw [sum_tiles]
  exact add_sum_eleven a fun c => ∑ l : Fin 256, f ⟨256 * c.val + l.val, by omega⟩

/-- A step of the hidden layer: the products of 256 hidden units with their down weights, added to the rows' totals. -/
def IsTile {M : ℕ} (T : FVec Ideal (Rows M) .bf16 → FVec Ideal Cols .bf16 → FVec Ideal Cols .bf16 → FVec Ideal (Rows M) .f32 →
    FVec Ideal Down .bf16 → FVec Ideal (Rows M) .f32) : Prop :=
  ∀ xn wg wu acc wd (y : (Rows M).Idx), T xn wg wu acc wd y
    = acc y + ∑ l : Fin 256, hid (∑ d : Fin 1024, xn (ix2 (y 0) d) * wg (ix3 0 d l))
        (∑ d : Fin 1024, xn (ix2 (y 0) d) * wu (ix3 0 d l)) * wd (ix4 0 0 l (y 1))

/-- The columns from `o` on of the gate-and-up weights. -/
def cols (U : FVec Ideal Gates .bf16) (o : ℕ) (h : ∀ a, (![0, 0, o] : Fin 3 → ℕ) a + (![1, 1024, 256] : Fin 3 → ℕ) a ≤ Gates.size a) :
    FVec Ideal Cols .bf16 :=
  View.ld (S := Gates) (Val := Elt Ideal) (e' := .bf16) U (Rect.unit ![0, 0, o] ![1, 1024, 256] h)

/-- A tile of the down weights. -/
def down (D : FVec Ideal Downs .bf16) (c : ℕ) (h : ∀ a, (![0, c, 0, 0] : Fin 4 → ℕ) a + (![1, 1, 256, 1024] : Fin 4 → ℕ) a ≤ Downs.size a) :
    FVec Ideal Down .bf16 :=
  View.ld (S := Downs) (Val := Elt Ideal) (e' := .bf16) D (Rect.unit ![0, c, 0, 0] ![1, 1, 256, 1024] h)

/-- The columns at an index. -/
theorem cols_apply (U : FVec Ideal Gates .bf16) (o : ℕ) (ho : o + 256 ≤ 5632) (h) (d : Fin 1024) (l : Fin 256) :
    cols U o h (ix3 0 d l) = U (ix3 0 d ⟨o + l.val, by omega⟩) := by
  refine congrArg U (funext fun a => Fin.ext ((Rect.idx_unit_val _ _ _ _ a).trans ?_))
  match a with
  | 0 => rfl
  | 1 => exact Nat.zero_add d.val
  | 2 => rfl

/-- The tile of the down weights at an index. -/
theorem down_apply (D : FVec Ideal Downs .bf16) (c : ℕ) (hc : c < 11) (h) (l : Fin 256) (j : Fin 1024) :
    down D c h (ix4 0 0 l j) = D (ix4 0 ⟨c, hc⟩ l j) := by
  refine congrArg D (funext fun a => Fin.ext ((Rect.idx_unit_val _ _ _ _ a).trans ?_))
  match a with
  | 0 => rfl
  | 1 => exact Nat.add_zero c
  | 2 => exact Nat.zero_add l.val
  | 3 => exact Nat.zero_add j.val

/-- The unit `k` of the hidden layer times its down weight. -/
def term (n : Fin 1024 → EReal) (U : FVec Ideal Gates .bf16) (D : FVec Ideal Downs .bf16) (j : Fin 1024) (k : Fin 2816) : EReal :=
  hid (gu n (fun d k => U (ix3 0 d k)) ⟨k.val, by omega⟩) (gu n (fun d k => U (ix3 0 d k)) ⟨2816 + k.val, by omega⟩)
    * D (ix4 0 ⟨k.val / 256, by omega⟩ ⟨k.val % 256, by omega⟩ j)

variable {M : ℕ} {T : FVec Ideal (Rows M) .bf16 → FVec Ideal Cols .bf16 → FVec Ideal Cols .bf16 → FVec Ideal (Rows M) .f32 →
    FVec Ideal Down .bf16 → FVec Ideal (Rows M) .f32} (hT : IsTile T)

include hT

/-- The step of the tile `c`: columns `256 c + l` of both halves, rows `256 c + l` of the down weights. -/
theorem tile_row (xn : FVec Ideal (Rows M) .bf16) (U : FVec Ideal Gates .bf16) (D : FVec Ideal Downs .bf16) (acc : FVec Ideal (Rows M) .f32)
    (r : Fin M) (j : Fin 1024) (o o' c : ℕ) (hc : c < 11) (ho : o = 256 * c) (ho' : o' = 2816 + 256 * c) (hg hu hd) :
    T xn (cols U o hg) (cols U o' hu) acc (down D c hd) (ix2 r j)
      = acc (ix2 r j) + ∑ l : Fin 256, term (fun d => xn (ix2 r d)) U D j ⟨o + l.val, by omega⟩ := by
  refine (hT _ _ _ _ _ (ix2 r j)).trans (congrArg _ (Finset.sum_congr rfl fun l _ => ?_))
  have h1 : (⟨(o + l.val) / 256, by omega⟩ : Fin 11) = ⟨c, hc⟩ := Fin.ext (by show (o + l.val) / 256 = c; omega)
  have h2 : (⟨(o + l.val) % 256, by omega⟩ : Fin 256) = l := Fin.ext (by show (o + l.val) % 256 = l.val; omega)
  have h3 : (⟨o' + l.val, by omega⟩ : Fin 5632) = ⟨2816 + (o + l.val), by omega⟩ := Fin.ext (by show o' + l.val = 2816 + (o + l.val); omega)
  unfold term
  rw [h1, h2]
  refine congr_arg₂ _ (congr_arg₂ _ ?_ ?_) (down_apply D c hc hd l j)
  · exact Finset.sum_congr rfl fun d _ => congrArg _ (cols_apply U o (by omega) hg d l)
  · exact Finset.sum_congr rfl fun d _ => congrArg _ ((cols_apply U o' (by omega) hu d l).trans (by rw [h3]))

/-- All eleven steps, one after another. -/
theorem chain (xn : FVec Ideal (Rows M) .bf16) (U : FVec Ideal Gates .bf16) (D : FVec Ideal Downs .bf16) (a : FVec Ideal (Rows M) .f32)
    (r : Fin M) (j : Fin 1024) g0 u0 d0 g1 u1 d1 g2 u2 d2 g3 u3 d3 g4 u4 d4 g5 u5 d5 g6 u6 d6 g7 u7 d7 g8 u8 d8 g9 u9 d9 g10 u10 d10 :
    T xn (cols U 2560 g10) (cols U 5376 u10)
      (T xn (cols U 2304 g9) (cols U 5120 u9)
      (T xn (cols U 2048 g8) (cols U 4864 u8)
      (T xn (cols U 1792 g7) (cols U 4608 u7)
      (T xn (cols U 1536 g6) (cols U 4352 u6)
      (T xn (cols U 1280 g5) (cols U 4096 u5)
      (T xn (cols U 1024 g4) (cols U 3840 u4)
      (T xn (cols U 768 g3) (cols U 3584 u3)
      (T xn (cols U 512 g2) (cols U 3328 u2)
      (T xn (cols U 256 g1) (cols U 3072 u1)
      (T xn (cols U 0 g0) (cols U 2816 u0) a (down D 0 d0)) (down D 1 d1)) (down D 2 d2)) (down D 3 d3)) (down D 4 d4)) (down D 5 d5)) (down D 6 d6)) (down D 7 d7)) (down D 8 d8)) (down D 9 d9)) (down D 10 d10) (ix2 r j)
      = a (ix2 r j) + ∑ k : Fin 2816, term (fun d => xn (ix2 r d)) U D j k := by
  rw [add_sum_tiles]
  refine (tile_row hT xn U D _ r j 2560 5376 10 (by decide) rfl rfl _ _ _).trans (congrArg (· + _) ?_)
  refine (tile_row hT xn U D _ r j 2304 5120 9 (by decide) rfl rfl _ _ _).trans (congrArg (· + _) ?_)
  refine (tile_row hT xn U D _ r j 2048 4864 8 (by decide) rfl rfl _ _ _).trans (congrArg (· + _) ?_)
  refine (tile_row hT xn U D _ r j 1792 4608 7 (by decide) rfl rfl _ _ _).trans (congrArg (· + _) ?_)
  refine (tile_row hT xn U D _ r j 1536 4352 6 (by decide) rfl rfl _ _ _).trans (congrArg (· + _) ?_)
  refine (tile_row hT xn U D _ r j 1280 4096 5 (by decide) rfl rfl _ _ _).trans (congrArg (· + _) ?_)
  refine (tile_row hT xn U D _ r j 1024 3840 4 (by decide) rfl rfl _ _ _).trans (congrArg (· + _) ?_)
  refine (tile_row hT xn U D _ r j 768 3584 3 (by decide) rfl rfl _ _ _).trans (congrArg (· + _) ?_)
  refine (tile_row hT xn U D _ r j 512 3328 2 (by decide) rfl rfl _ _ _).trans (congrArg (· + _) ?_)
  refine (tile_row hT xn U D _ r j 256 3072 1 (by decide) rfl rfl _ _ _).trans (congrArg (· + _) ?_)
  exact tile_row hT xn U D _ r j 0 2816 0 (by decide) rfl rfl _ _ _

end Cert.Ffn

end
-- ==== Proof.Ffn.lean ====
/- The last layer's residual feed-forward call on the prompt: what a grid point writes. -/
module

public import proofs.«01_k».proof.Proof.FfnTiles
public import proofs.«01_k».proof.Proof.Gen.Kernel2Ideal.Value

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Ffn

variable (m : (ℓ : Loc nD τ sig) → Buf (Elt Ideal) ℓ)

/-- One tile of the hidden layer added to the rows' totals. -/
def tile (xn : FVec Ideal S1024x1024 .bf16) (wg wu : FVec Ideal S1x1024x256 .bf16) (acc : FVec Ideal S1024x1024 .f32)
    (wd : FVec Ideal S1x1x256x1024 .bf16) : FVec Ideal S1024x1024 .f32 :=
  k0_pay5 xn (k0_pay4 xn wg) wu acc wd

/-- A tile's step at an index. -/
theorem is_tile : IsTile (M := 1024) tile := by
  intro xn wg wu acc wd y
  unfold tile
  pointwise [k0_pay5, k0_pay4, hid]

/-- The residual row at an index. -/
theorem pay2_apply (x : FVec Ideal S1024x1024 .f32) (o : FVec Ideal S1024x1024 .bf16) (w : FVec Ideal S1024x1024 .bf16) (y : S1024x1024.Idx) :
    k0_pay2 (F := Ideal) x o w y = resid (fun d => x (ix2 (y 0) d)) (fun d => o (ix2 (y 0) d)) (fun k j => w (ix2 k j)) (y 1) := by
  pointwise [k0_pay2, resid]

/-- The normalised row at an index. -/
theorem pay3_apply (x : FVec Ideal S1024x1024 .f32) (o : FVec Ideal S1024x1024 .bf16) (w : FVec Ideal S1024x1024 .bf16) (g : FVec Ideal S1x1024 .f32) (y : S1024x1024.Idx) :
    k0_pay3 (F := Ideal) x o w g y = nrm (resid (fun d => x (ix2 (y 0) d)) (fun d => o (ix2 (y 0) d)) (fun k j => w (ix2 k j))) (fun d => g (ix2 0 d)) (y 1) := by
  pointwise [k0_pay3, nrm, pay2_apply]

/-- What a grid point leaves in its output block: the layer's rows over the point's input blocks. -/
theorem out_row (c : Dev nD) (t : Fin cfg0.N) (X : FVec Ideal S1024x1024 .f32) (O : FVec Ideal S1024x1024 .bf16) (W : FVec Ideal S1024x1024 .bf16)
    (g : FVec Ideal S1x1024 .f32) (U : FVec Ideal S1x1024x5632 .bf16) (D : FVec Ideal S1x11x256x1024 .bf16)
    (h0 : iblk m c 0 t = X) (h1 : iblk m c 1 t = O) (h2 : iblk m c 2 t = W) (h3 : iblk m c 3 t = g) (h4 : iblk m c 4 t = U) (h5 : iblk m c 5 t = D) (r : Fin 1024) (j : Fin 1024) :
    outsAt0 m c t (ix2 r j) = rowOut (resid (fun d => X (ix2 r d)) (fun d => O (ix2 r d)) (fun k j => W (ix2 k j)))
      (nrm (resid (fun d => X (ix2 r d)) (fun d => O (ix2 r d)) (fun k j => W (ix2 k j))) (fun d => g (ix2 0 d)))
      (fun d k => U (ix3 0 d k)) (fun k j => D (ix4 0 ⟨k.val / 256, by omega⟩ ⟨k.val % 256, by omega⟩ j)) j := by
  unfold outsAt0
  rw [h0, h1, h2, h3, h4, h5]
  frame_open
  simp (disch := decide) only [↓ View.readCov_skip, ↓ View.readCov_cons_toLoadRect, ↓ View.readCov_fill]
  frame_out
  have hn : nrm (resid (fun d => X (ix2 r d)) (fun d => O (ix2 r d)) (fun k j => W (ix2 k j))) (fun d => g (ix2 0 d))
      = fun d => k0_pay3 (F := Ideal) X O W g (ix2 r d) := funext fun d => (pay3_apply X O W g (ix2 r d)).symm
  have hr : resid (fun d => X (ix2 r d)) (fun d => O (ix2 r d)) (fun k j => W (ix2 k j)) j
      = k0_pay2 (F := Ideal) X O W (ix2 r j) := (pay2_apply X O W (ix2 r j)).symm
  rw [rowOut, hr, hn]
  generalize k0_pay3 (F := Ideal) X O W g = xn
  generalize k0_pay2 (F := Ideal) X O W = a
  show tile xn _ _ (tile xn _ _ (tile xn _ _ (tile xn _ _ (tile xn _ _ (tile xn _ _ (tile xn _ _ (tile xn _ _ (tile xn _ _
    (tile xn _ _ (tile xn _ _ a _) _) _) _) _) _) _) _) _) _) _ (ix2 r j) = _
  exact chain (M := 1024) (T := tile) is_tile xn U D a r j _ _ _ _ _ _ _ _ _ _ _ _ _ _ _ _ _ _ _ _ _ _ _ _ _ _ _ _ _ _ _ _ _

end Cert.Kernel2Ideal.Ffn

end
-- ==== Proof.FfnRef.lean ====
/- The reference of the feed-forward call, row by row. -/
module

public import proofs.«01_k».proof.Proof.FfnTiles
public import proofs.«01_k».proof.Proof.Gen.Reference2Ideal.Run
public import proofs.«01_k».proof.Proof.Gen.Reference2Ideal.Read

@[expose] public section

set_option maxRecDepth 16384

noncomputable section

open Idealize.ShloMosaic Idealize.ShloMosaic.TcCoe Idealize.SL.Sem

namespace Cert.Reference2Ideal.Ffn

open Cert.Reference2Ideal Cert.Reference2Ideal.Gen Cert.Reference2Ideal.Read Cert.Ffn

variable (x0 : FVec Ideal S4x4096x1024 .f32) (x1 : FVec Ideal S4x4096x16x64 .f32) (x2 : FVec Ideal S1x1024x1024 .f32)
  (x3 : FVec Ideal S2x1024 .f32) (x4 : FVec Ideal S2x1024x5632 .f32) (x5 : FVec Ideal S2x2816x1024 .f32)

/-- The residual row of the token `s` of sequence `b`. -/
def res (b : Fin 4) (s : Fin 4096) : Fin 1024 → EReal :=
  resid (fun d => x0 (ix3 b s d)) (fun k => x1 (ix4 b s ⟨k.val / 64, by omega⟩ ⟨k.val % 64, by omega⟩)) (fun k j => x2 (ix3 0 k j))

/-- The normalised row of the token `s` of sequence `b`. -/
def nor (b : Fin 4) (s : Fin 4096) : Fin 1024 → EReal := nrm (res x0 x1 x2 b s) (fun d => x3 (ix2 1 d))

/-- The layer's output row of the token `s` of sequence `b`. -/
def row (b : Fin 4) (s : Fin 4096) : Fin 1024 → EReal :=
  rowOut (res x0 x1 x2 b s) (nor x0 x1 x2 x3 b s) (fun d k => x4 (ix3 1 d k)) (fun k j => x5 (ix3 1 k j))

/-- The residual stream. -/
theorem v3_row (b : Fin 4) (s : Fin 4096) (j : Fin 1024) :
    val_main_v3 (F := Ideal) x0 x1 x2 (ix3 b s j) = res x0 x1 x2 b s j := by
  refine (val_main_v3_apply _ _ _ _).trans (congrArg _ ((val_main_v2_apply _ _ _).trans (Finset.sum_congr rfl fun k _ => ?_)))
  refine congr_arg₂ _ ((val_main_v0_apply _ _).trans (congrArg x1 ?_)) ((val_main_v1_apply _ _).trans (congrArg x2 ?_)) <;> blk_ext

/-- The normalised stream. -/
theorem v22_row (b : Fin 4) (s : Fin 4096) (j : Fin 1024) :
    val_main_v22 (F := Ideal) x0 x1 x2 x3 (ix3 b s j) = nor x0 x1 x2 x3 b s j := by
  have hs : val_main_v11 (F := Ideal) x0 x1 x2 (ix2 b s) = ∑ d, res x0 x1 x2 b s d * res x0 x1 x2 b s d := by
    refine (val_main_v11_apply _ _ _ _).trans ?_
    rw [val_main_cst_apply]
    refine (congrArg (· + _) Ideal.ofBits_zero_f32).trans ((zero_add _).trans (Finset.sum_congr rfl fun k _ => ?_))
    rw [val_main_v10_apply]
    have h : idx_main_v11 (ix2 b s) k = ix3 b s k := by blk_ext
    rw [h, v3_row]; rfl
  rw [val_main_v22_apply, val_main_v19_apply, val_main_v18_apply, val_main_v17_apply, val_main_v16_apply, val_main_v14_apply,
    val_main_v15_apply, val_main_v13_apply, val_main_v12_apply, val_main_cst_0_apply, val_main_cst_1_apply, val_main_v21_apply,
    val_main_v20_apply, val_main_v5_apply, val_main_v4_apply, v3_row]
  have h : idx_main_v12 (idx_main_v18 (ix3 b s j)) = ix2 b s := by blk_ext
  have h' : idx_main_v4 (idx_main_v5 (idx_main_v20 (idx_main_v21 (ix3 b s j)))) = ix2 1 j := by blk_ext
  rw [h, h', hs]
  rfl

/-- The gate and up columns. -/
theorem v23_row (b : Fin 4) (s : Fin 4096) (k : Fin 5632) :
    val_main_v23 (F := Ideal) x0 x1 x2 x3 x4 (ix3 b s k) = gu (nor x0 x1 x2 x3 b s) (fun d k => x4 (ix3 1 d k)) k := by
  refine (val_main_v23_apply _ _ _ _ _ _).trans (Finset.sum_congr rfl fun d _ => ?_)
  have h : lidx_main_v23 (ix3 b s k) d = ix3 b s d := by blk_ext
  rw [h, v22_row]
  refine congrArg _ ((val_main_v7_apply _ _).trans ((val_main_v6_apply _ _).trans (congrArg x4 ?_)))
  blk_ext

/-- The reference's result at a row and a column. -/
theorem v30_row (R : Fin 16384) (j : Fin 1024) :
    val_main_v30 (F := Ideal) x0 x1 x2 x3 x4 x5 (ix2 R j)
      = row x0 x1 x2 x3 x4 x5 ⟨R.val / 4096, by omega⟩ ⟨R.val % 4096, by omega⟩ j := by
  have h : idx_main_v30 (ix2 R j) = ix3 ⟨R.val / 4096, by omega⟩ ⟨R.val % 4096, by omega⟩ j := by blk_ext
  rw [val_main_v30_apply, h, val_main_v29_apply, v3_row]
  generalize (⟨R.val / 4096, by omega⟩ : Fin 4) = b
  generalize (⟨R.val % 4096, by omega⟩ : Fin 4096) = s
  refine congrArg _ ((val_main_v28_apply _ _ _ _ _ _ _).trans (Finset.sum_congr rfl fun k _ => ?_))
  have h1 : lidx_main_v28 (ix3 b s j) k = ix3 b s k := by blk_ext
  have h2 : idx_main_v24 (ix3 b s k) = ix3 b s ⟨k.val, by omega⟩ := by blk_ext
  have h3 : idx_main_v25 (ix3 b s k) = ix3 b s ⟨2816 + k.val, by omega⟩ := by blk_ext
  rw [h1, val_main_v27_apply, val_main_v26_apply, val_main_call0_v5_apply, val_main_call0_v4_apply, val_main_call0_v3_apply,
    val_main_call0_v2_apply, val_main_call0_v1_apply, val_main_call0_v0_apply, val_main_call0_cst_apply, val_main_call0_cst_0_apply,
    val_main_v24_apply, val_main_v25_apply, h2, h3, v23_row, v23_row]
  refine congr_arg₂ _ ?_ ((val_main_v9_apply _ _).trans ((val_main_v8_apply _ _).trans (congrArg x5 ?_)))
  · generalize gu _ _ _ = a
    generalize gu _ _ _ = u
    show a * Ideal.div (Ideal.ofBits .f32 0x3F800000#32) (Ideal.ofBits .f32 0x3F800000#32 + Ideal.exp (-a)) * u = _
    rw [Ideal.ofBits_one_f32, hid, zero_sub]
  · blk_ext

end Cert.Reference2Ideal.Ffn

end
-- ==== Proof.FfnFinal.lean ====
/- The feed-forward call writes the reference's rows. -/
module

public import proofs.«01_k».proof.Proof.Ffn
public import proofs.«01_k».proof.Proof.FfnRef

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Ffn

variable (m : (ℓ : Loc nD τ sig) → Buf (Elt Ideal) ℓ)

/-- The block of each window at a grid point. -/
theorem idx : ∀ t : Fin cfg0.N, win0_0.index t = ![t.val, 0] ∧ win0_1.index t = ![t.val, 0] ∧ win0_2.index t = ![0, 0]
    ∧ win0_3.index t = ![0, 0] ∧ win0_4.index t = ![1, 0, 0] ∧ win0_5.index t = ![1, 0, 0, 0] ∧ win0_6.index t = ![t.val, 0] :=
  (by decide +kernel : ∀ t : Fin grid0.N, _)

/-- The input rows of a grid point. -/
theorem readX (c : Dev nD) (t : Fin cfg0.N) (r d : Fin 1024) :
    iblk m c 0 t (ix2 r d) = m ((c : Thread nD τ).loc main_arg0)
      (ix3 ⟨(t.val * 1024 + r.val) / 4096, by have := t.isLt; change t.val < 16 at this; omega⟩ ⟨(t.val * 1024 + r.val) % 4096, by omega⟩ d) := by
  have ht : t.val < 16 := t.isLt
  blk_simp [iblk, idx t]
  entry_read
  pointwise
  blk_ext [idx t]

/-- The attention rows of a grid point. -/
theorem readO (c : Dev nD) (t : Fin cfg0.N) (r k : Fin 1024) :
    iblk m c 1 t (ix2 r k) = m ((c : Thread nD τ).loc main_arg1)
      (ix4 ⟨(t.val * 1024 + r.val) / 4096, by have := t.isLt; change t.val < 16 at this; omega⟩ ⟨(t.val * 1024 + r.val) % 4096, by omega⟩ ⟨k.val / 64, by omega⟩ ⟨k.val % 64, by omega⟩) := by
  have ht : t.val < 16 := t.isLt
  blk_simp [iblk, idx t]
  entry_read
  pointwise
  blk_ext [idx t]

/-- The output projection. -/
theorem readW (c : Dev nD) (t : Fin cfg0.N) (k j : Fin 1024) :
    iblk m c 2 t (ix2 k j) = m ((c : Thread nD τ).loc main_arg2)
      (ix3 0 k j) := by
  have ht : t.val < 16 := t.isLt
  blk_simp [iblk, idx t]
  entry_read
  pointwise
  blk_ext [idx t]

/-- The gains. -/
theorem readG (c : Dev nD) (t : Fin cfg0.N) (d : Fin 1024) :
    iblk m c 3 t (ix2 0 d) = m ((c : Thread nD τ).loc main_arg3)
      (ix2 1 d) := by
  have ht : t.val < 16 := t.isLt
  blk_simp [iblk, idx t]
  entry_read
  pointwise
  blk_ext [idx t]

/-- The gate-and-up weights. -/
theorem readU (c : Dev nD) (t : Fin cfg0.N) (d : Fin 1024) (k : Fin 5632) :
    iblk m c 4 t (ix3 0 d k) = m ((c : Thread nD τ).loc main_arg4)
      (ix3 1 d k) := by
  have ht : t.val < 16 := t.isLt
  blk_simp [iblk, idx t]
  entry_read
  pointwise
  blk_ext [idx t]

/-- The down weights. -/
theorem readD (c : Dev nD) (t : Fin cfg0.N) (k : Fin 2816) (j : Fin 1024) :
    iblk m c 5 t (ix4 0 ⟨k.val / 256, by omega⟩ ⟨k.val % 256, by omega⟩ j) = m ((c : Thread nD τ).loc main_arg5)
      (ix3 1 k j) := by
  have ht : t.val < 16 := t.isLt
  blk_simp [iblk, idx t]
  entry_read
  pointwise
  blk_ext [idx t]

/-- The array the call returns. -/
theorem final (c : Dev nD) : (dats m 0 c).arrAt 6 (cfgs 0).N
    = Cert.Reference2Ideal.Read.val_main_v30 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t _ y => ?_
  blk_simp
  rw [after0_6]
  obtain ⟨r, j, rfl⟩ : ∃ r j : Fin 1024, y = ix2 r j := ⟨y 0, y 1, by blk_ext⟩
  have ht : t.val < 16 := t.isLt
  have h : ((cfg0.win 6).blk t).view.emb (ix2 r j) = (ix2 ⟨t.val * 1024 + r.val, by omega⟩ j : S16384x1024.Idx) := by
    blk_ext [idx t]
  refine (out_row m c t _ _ _ _ _ _ rfl rfl rfl rfl rfl rfl r j).trans ?_
  rw [h]
  refine Eq.trans ?_ (Cert.Reference2Ideal.Ffn.v30_row _ _ _ _ _ _ _ _).symm
  simp only [readX, readO, readW, readG, readU, readD]
  rfl

end Cert.Kernel2Ideal.Ffn

end
-- ==== Proof.Ffn3.lean ====
/- The first layer's residual feed-forward call on the prompt: what a grid point writes. -/
module

public import proofs.«01_k».proof.Proof.FfnTiles
public import proofs.«01_k».proof.Proof.Gen.Kernel3Ideal.Value

@[expose] public section

set_option maxRecDepth 16384

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen Cert.Ffn

variable (m : (ℓ : Loc nD τ sig) → Buf (Elt Ideal) ℓ)

/-- One tile of the hidden layer added to the rows' totals. -/
def tile (xn : FVec Ideal S1024x1024 .bf16) (wg wu : FVec Ideal S1x1024x256 .bf16) (acc : FVec Ideal S1024x1024 .f32)
    (wd : FVec Ideal S1x1x256x1024 .bf16) : FVec Ideal S1024x1024 .f32 :=
  k0_pay4 xn wg wu acc wd

/-- A tile's step at an index. -/
theorem is_tile : IsTile (M := 1024) tile := by
  intro xn wg wu acc wd y
  unfold tile
  pointwise [k0_pay4, hid]

/-- The residual row at an index. -/
theorem pay2_apply (x : FVec Ideal S1024x1024 .f32) (o : FVec Ideal S1024x512 .bf16) (v : FVec Ideal S512x1024 .bf16) (p : FVec Ideal S1024x512 .bf16) (w : FVec Ideal S512x1024 .bf16) (y : S1024x1024.Idx) :
    k0_pay2 (F := Ideal) x o v p w y = resid2 (fun d => x (ix2 (y 0) d)) (fun d => o (ix2 (y 0) d)) (fun k j => v (ix2 k j)) (fun d => p (ix2 (y 0) d)) (fun k j => w (ix2 k j)) (y 1) := by
  pointwise [k0_pay2, resid2]

/-- The normalised row at an index. -/
theorem pay3_apply (x : FVec Ideal S1024x1024 .f32) (o : FVec Ideal S1024x512 .bf16) (v : FVec Ideal S512x1024 .bf16) (p : FVec Ideal S1024x512 .bf16) (w : FVec Ideal S512x1024 .bf16) (g : FVec Ideal S1x1024 .f32) (y : S1024x1024.Idx) :
    k0_pay3 (F := Ideal) x o v p w g y = nrm (resid2 (fun d => x (ix2 (y 0) d)) (fun d => o (ix2 (y 0) d)) (fun k j => v (ix2 k j)) (fun d => p (ix2 (y 0) d)) (fun k j => w (ix2 k j))) (fun d => g (ix2 0 d)) (y 1) := by
  pointwise [k0_pay3, nrm, pay2_apply]

/-- What a grid point leaves in its output block: the layer's rows over the point's input blocks. -/
theorem out_row (c : Dev nD) (t : Fin cfg0.N) (X : FVec Ideal S1024x1024 .f32) (O Q : FVec Ideal S1024x512 .bf16) (V W : FVec Ideal S512x1024 .bf16)
    (g : FVec Ideal S1x1024 .f32) (U : FVec Ideal S1x1024x5632 .bf16) (D : FVec Ideal S1x11x256x1024 .bf16)
    (h0 : iblk m c 0 t = X) (h1 : iblk m c 1 t = O) (h2 : iblk m c 2 t = Q) (h3 : iblk m c 3 t = V) (h4 : iblk m c 4 t = W) (h5 : iblk m c 5 t = g) (h6 : iblk m c 6 t = U) (h7 : iblk m c 7 t = D) (r : Fin 1024) (j : Fin 1024) :
    outsAt0 m c t (ix2 r j) = rowOut (resid2 (fun d => X (ix2 r d)) (fun d => O (ix2 r d)) (fun k j => V (ix2 k j)) (fun d => Q (ix2 r d)) (fun k j => W (ix2 k j)))
      (nrm (resid2 (fun d => X (ix2 r d)) (fun d => O (ix2 r d)) (fun k j => V (ix2 k j)) (fun d => Q (ix2 r d)) (fun k j => W (ix2 k j))) (fun d => g (ix2 0 d)))
      (fun d k => U (ix3 0 d k)) (fun k j => D (ix4 0 ⟨k.val / 256, by omega⟩ ⟨k.val % 256, by omega⟩ j)) j := by
  unfold outsAt0
  rw [h0, h1, h2, h3, h4, h5, h6, h7]
  frame_open
  simp (disch := decide) only [↓ View.readCov_skip, ↓ View.readCov_cons_toLoadRect, ↓ View.readCov_fill]
  frame_out
  have hn : nrm (resid2 (fun d => X (ix2 r d)) (fun d => O (ix2 r d)) (fun k j => V (ix2 k j)) (fun d => Q (ix2 r d)) (fun k j => W (ix2 k j))) (fun d => g (ix2 0 d))
      = fun d => k0_pay3 (F := Ideal) X O V Q W g (ix2 r d) := funext fun d => (pay3_apply X O V Q W g (ix2 r d)).symm
  have hr : resid2 (fun d => X (ix2 r d)) (fun d => O (ix2 r d)) (fun k j => V (ix2 k j)) (fun d => Q (ix2 r d)) (fun k j => W (ix2 k j)) j
      = k0_pay2 (F := Ideal) X O V Q W (ix2 r j) := (pay2_apply X O V Q W (ix2 r j)).symm
  rw [rowOut, hr, hn]
  generalize k0_pay3 (F := Ideal) X O V Q W g = xn
  generalize k0_pay2 (F := Ideal) X O V Q W = a
  show tile xn _ _ (tile xn _ _ (tile xn _ _ (tile xn _ _ (tile xn _ _ (tile xn _ _ (tile xn _ _ (tile xn _ _ (tile xn _ _
    (tile xn _ _ (tile xn _ _ a _) _) _) _) _) _) _) _) _) _) _ (ix2 r j) = _
  exact chain (M := 1024) (T := tile) is_tile xn U D a r j _ _ _ _ _ _ _ _ _ _ _ _ _ _ _ _ _ _ _ _ _ _ _ _ _ _ _ _ _ _ _ _ _

end Cert.Kernel3Ideal.Ffn

end
-- ==== Proof.FfnRef3.lean ====
/- The reference of the first layer's feed-forward call, row by row. -/
module

public import proofs.«01_k».proof.Proof.FfnTiles
public import proofs.«01_k».proof.Proof.Gen.Reference3Ideal.Run
public import proofs.«01_k».proof.Proof.Gen.Reference3Ideal.Read

@[expose] public section

set_option maxRecDepth 16384

noncomputable section

open Idealize.ShloMosaic Idealize.ShloMosaic.TcCoe Idealize.SL.Sem

namespace Cert.Reference3Ideal.Ffn

open Cert.Reference3Ideal Cert.Reference3Ideal.Gen Cert.Reference3Ideal.Read Cert.Ffn

variable (x0 : FVec Ideal S4x4096x1024 .f32) (x1 : FVec Ideal S4x4096x4x128 .f32) (x2 : FVec Ideal S4x4096x512 .f32)
  (x3 : FVec Ideal S1x1024x1024 .f32) (x4 : FVec Ideal S2x1024 .f32) (x5 : FVec Ideal S2x1024x5632 .f32) (x6 : FVec Ideal S2x2816x1024 .f32)

/-- The residual row of the token `s` of sequence `b`. -/
def res (b : Fin 4) (s : Fin 4096) : Fin 1024 → EReal :=
  resid2 (fun d => x0 (ix3 b s d)) (fun k => x1 (ix4 b s ⟨k.val / 128, by omega⟩ ⟨k.val % 128, by omega⟩)) (fun k j => x3 (ix3 0 ⟨k.val, by omega⟩ j))
    (fun k => x2 (ix3 b s k)) (fun k j => x3 (ix3 0 ⟨512 + k.val, by omega⟩ j))

/-- The normalised row of the token `s` of sequence `b`. -/
def nor (b : Fin 4) (s : Fin 4096) : Fin 1024 → EReal := nrm (res x0 x1 x2 x3 b s) (fun d => x4 (ix2 0 d))

/-- The layer's output row of the token `s` of sequence `b`. -/
def row (b : Fin 4) (s : Fin 4096) : Fin 1024 → EReal :=
  rowOut (res x0 x1 x2 x3 b s) (nor x0 x1 x2 x3 x4 b s) (fun d k => x5 (ix3 0 d k)) (fun k j => x6 (ix3 0 k j))

/-- The first mixer's half of the concatenated row. -/
theorem v1_left (b : Fin 4) (s : Fin 4096) (k : Fin 512) :
    val_main_v1 (F := Ideal) x1 x2 (ix3 b s ⟨k.val, by omega⟩) = x1 (ix4 b s ⟨k.val / 128, by omega⟩ ⟨k.val % 128, by omega⟩) := by
  have h : val_main_v0 (F := Ideal) x1 (ix3 b s k) = x1 (ix4 b s ⟨k.val / 128, by omega⟩ ⟨k.val % 128, by omega⟩) :=
    (val_main_v0_apply _ _).trans (congrArg x1 (by blk_ext))
  rw [← h]
  unfold val_main_v1
  generalize val_main_v0 (F := Ideal) x1 = z
  have hk : k.val < 512 := k.isLt
  pointwise

/-- The second mixer's half of the concatenated row. -/
theorem v1_right (b : Fin 4) (s : Fin 4096) (k : Fin 512) :
    val_main_v1 (F := Ideal) x1 x2 (ix3 b s ⟨512 + k.val, by omega⟩) = x2 (ix3 b s k) := by
  unfold val_main_v1
  generalize val_main_v0 (F := Ideal) x1 = z
  pointwise

/-- The residual stream. -/
theorem v4_row (b : Fin 4) (s : Fin 4096) (j : Fin 1024) :
    val_main_v4 (F := Ideal) x0 x1 x2 x3 (ix3 b s j) = res x0 x1 x2 x3 b s j := by
  have e : val_main_v3 (F := Ideal) x1 x2 x3 (ix3 b s j)
      = ∑ k : Fin 1024, val_main_v1 (F := Ideal) x1 x2 (ix3 b s k) * x3 (ix3 0 k j) := by
    refine (val_main_v3_apply _ _ _ _).trans (Finset.sum_congr rfl fun k _ => ?_)
    refine congr_arg₂ _ (congrArg (val_main_v1 (F := Ideal) x1 x2) ?_) ((val_main_v2_apply _ _).trans (congrArg x3 ?_)) <;> blk_ext
  refine (val_main_v4_apply _ _ _ _ _).trans ?_
  rw [e]
  have e' := Fin.sum_univ_add (a := 512) (b := 512) fun k : Fin 1024 => val_main_v1 (F := Ideal) x1 x2 (ix3 b s k) * x3 (ix3 0 k j)
  refine (congrArg (x0 (ix3 b s j) + ·) e').trans ?_
  unfold res resid2
  rw [add_assoc]
  refine congrArg _ (congr_arg₂ _ ?_ ?_)
  · exact Finset.sum_congr rfl fun k _ => congrArg (· * _) (v1_left x1 x2 b s k)
  · exact Finset.sum_congr rfl fun k _ => congrArg (· * _) (v1_right x1 x2 b s k)

/-- The normalised stream. -/
theorem v23_row (b : Fin 4) (s : Fin 4096) (j : Fin 1024) :
    val_main_v23 (F := Ideal) x0 x1 x2 x3 x4 (ix3 b s j) = nor x0 x1 x2 x3 x4 b s j := by
  have hs : val_main_v12 (F := Ideal) x0 x1 x2 x3 (ix2 b s) = ∑ d, res x0 x1 x2 x3 b s d * res x0 x1 x2 x3 b s d := by
    refine (val_main_v12_apply _ _ _ _ _).trans ?_
    rw [val_main_cst_apply]
    refine (congrArg (· + _) Ideal.ofBits_zero_f32).trans ((zero_add _).trans (Finset.sum_congr rfl fun k _ => ?_))
    rw [val_main_v11_apply]
    have h : idx_main_v12 (ix2 b s) k = ix3 b s k := by blk_ext
    rw [h, v4_row]; rfl
  rw [val_main_v23_apply, val_main_v20_apply, val_main_v19_apply, val_main_v18_apply, val_main_v17_apply, val_main_v15_apply,
    val_main_v16_apply, val_main_v14_apply, val_main_v13_apply, val_main_cst_0_apply, val_main_cst_1_apply, val_main_v22_apply,
    val_main_v21_apply, val_main_v6_apply, val_main_v5_apply, v4_row]
  have h : idx_main_v13 (idx_main_v19 (ix3 b s j)) = ix2 b s := by blk_ext
  have h' : idx_main_v5 (idx_main_v6 (idx_main_v21 (idx_main_v22 (ix3 b s j)))) = ix2 0 j := by blk_ext
  rw [h, h', hs]
  rfl

/-- The gate and up columns. -/
theorem v24_row (b : Fin 4) (s : Fin 4096) (k : Fin 5632) :
    val_main_v24 (F := Ideal) x0 x1 x2 x3 x4 x5 (ix3 b s k) = gu (nor x0 x1 x2 x3 x4 b s) (fun d k => x5 (ix3 0 d k)) k := by
  refine (val_main_v24_apply _ _ _ _ _ _ _).trans (Finset.sum_congr rfl fun d _ => ?_)
  have h : lidx_main_v24 (ix3 b s k) d = ix3 b s d := by blk_ext
  rw [h, v23_row]
  refine congrArg _ ((val_main_v8_apply _ _).trans ((val_main_v7_apply _ _).trans (congrArg x5 ?_)))
  blk_ext

/-- The reference's result at a row and a column. -/
theorem v31_row (R : Fin 16384) (j : Fin 1024) :
    val_main_v31 (F := Ideal) x0 x1 x2 x3 x4 x5 x6 (ix2 R j)
      = row x0 x1 x2 x3 x4 x5 x6 ⟨R.val / 4096, by omega⟩ ⟨R.val % 4096, by omega⟩ j := by
  have h : idx_main_v31 (ix2 R j) = ix3 ⟨R.val / 4096, by omega⟩ ⟨R.val % 4096, by omega⟩ j := by blk_ext
  rw [val_main_v31_apply, h, val_main_v30_apply, v4_row]
  generalize (⟨R.val / 4096, by omega⟩ : Fin 4) = b
  generalize (⟨R.val % 4096, by omega⟩ : Fin 4096) = s
  refine congrArg _ ((val_main_v29_apply _ _ _ _ _ _ _ _).trans (Finset.sum_congr rfl fun k _ => ?_))
  have h1 : lidx_main_v29 (ix3 b s j) k = ix3 b s k := by blk_ext
  have h2 : idx_main_v25 (ix3 b s k) = ix3 b s ⟨k.val, by omega⟩ := by blk_ext
  have h3 : idx_main_v26 (ix3 b s k) = ix3 b s ⟨2816 + k.val, by omega⟩ := by blk_ext
  rw [h1, val_main_v28_apply, val_main_v27_apply, val_main_call0_v5_apply, val_main_call0_v4_apply, val_main_call0_v3_apply,
    val_main_call0_v2_apply, val_main_call0_v1_apply, val_main_call0_v0_apply, val_main_call0_cst_apply, val_main_call0_cst_0_apply,
    val_main_v25_apply, val_main_v26_apply, h2, h3, v24_row, v24_row]
  refine congr_arg₂ _ ?_ ((val_main_v10_apply _ _).trans ((val_main_v9_apply _ _).trans (congrArg x6 ?_)))
  · generalize gu _ _ _ = a
    generalize gu _ _ _ = u
    show a * Ideal.div (Ideal.ofBits .f32 0x3F800000#32) (Ideal.ofBits .f32 0x3F800000#32 + Ideal.exp (-a)) * u = _
    rw [Ideal.ofBits_one_f32, hid, zero_sub]
  · blk_ext

end Cert.Reference3Ideal.Ffn

end
-- ==== Proof.FfnFinal3.lean ====
/- The first layer's feed-forward call writes the reference's rows. -/
module

public import proofs.«01_k».proof.Proof.Ffn3
public import proofs.«01_k».proof.Proof.FfnRef3

@[expose] public section

set_option maxRecDepth 16384

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen Cert.Ffn

variable (m : (ℓ : Loc nD τ sig) → Buf (Elt Ideal) ℓ)

/-- The block of each window at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0, 0]
    ∧ win0_7.index t = ![0, 0, 0, 0] ∧ win0_8.index t = ![t.val, 0] :=
  (by decide +kernel : ∀ t : Fin grid0.N, _)

/-- The input rows of a grid point. -/
theorem readX (c : Dev nD) (t : Fin cfg0.N) (r d : Fin 1024) :
    iblk m c 0 t (ix2 r d) = m ((c : Thread nD τ).loc main_arg0) (ix3 ⟨(t.val * 1024 + r.val) / 4096, by have := t.isLt; change t.val < 16 at this; omega⟩ ⟨(t.val * 1024 + r.val) % 4096, by omega⟩ d) := by
  have ht : t.val < 16 := t.isLt
  blk_simp [iblk, idx t]
  entry_read
  pointwise
  blk_ext [idx t]

/-- The first mixer's rows of a grid point. -/
theorem readO (c : Dev nD) (t : Fin cfg0.N) (r : Fin 1024) (k : Fin 512) :
    iblk m c 1 t (ix2 r k) = m ((c : Thread nD τ).loc main_arg1) (ix4 ⟨(t.val * 1024 + r.val) / 4096, by have := t.isLt; change t.val < 16 at this; omega⟩ ⟨(t.val * 1024 + r.val) % 4096, by omega⟩ ⟨k.val / 128, by omega⟩ ⟨k.val % 128, by omega⟩) := by
  have ht : t.val < 16 := t.isLt
  blk_simp [iblk, idx t]
  entry_read
  pointwise
  blk_ext [idx t]

/-- The second mixer's rows of a grid point. -/
theorem readQ (c : Dev nD) (t : Fin cfg0.N) (r : Fin 1024) (k : Fin 512) :
    iblk m c 2 t (ix2 r k) = m ((c : Thread nD τ).loc main_arg2) (ix3 ⟨(t.val * 1024 + r.val) / 4096, by have := t.isLt; change t.val < 16 at this; omega⟩ ⟨(t.val * 1024 + r.val) % 4096, by omega⟩ k) := by
  have ht : t.val < 16 := t.isLt
  blk_simp [iblk, idx t]
  entry_read
  pointwise
  blk_ext [idx t]

/-- The first mixer's output projection. -/
theorem readV (c : Dev nD) (t : Fin cfg0.N) (k : Fin 512) (j : Fin 1024) :
    iblk m c 3 t (ix2 k j) = m ((c : Thread nD τ).loc main_arg3) (ix3 0 ⟨k.val, by omega⟩ j) := by
  have ht : t.val < 16 := t.isLt
  blk_simp [iblk, idx t]
  entry_read
  pointwise
  blk_ext [idx t]

/-- The second mixer's output projection. -/
theorem readW (c : Dev nD) (t : Fin cfg0.N) (k : Fin 512) (j : Fin 1024) :
    iblk m c 4 t (ix2 k j) = m ((c : Thread nD τ).loc main_arg3) (ix3 0 ⟨512 + k.val, by omega⟩ j) := by
  have ht : t.val < 16 := t.isLt
  blk_simp [iblk, idx t]
  entry_read
  pointwise
  blk_ext [idx t]

/-- The gains. -/
theorem readG (c : Dev nD) (t : Fin cfg0.N) (d : Fin 1024) :
    iblk m c 5 t (ix2 0 d) = m ((c : Thread nD τ).loc main_arg4) (ix2 0 d) := by
  have ht : t.val < 16 := t.isLt
  blk_simp [iblk, idx t]
  entry_read
  pointwise
  blk_ext [idx t]

/-- The gate-and-up weights. -/
theorem readU (c : Dev nD) (t : Fin cfg0.N) (d : Fin 1024) (k : Fin 5632) :
    iblk m c 6 t (ix3 0 d k) = m ((c : Thread nD τ).loc main_arg5) (ix3 0 d k) := by
  have ht : t.val < 16 := t.isLt
  blk_simp [iblk, idx t]
  entry_read
  pointwise
  blk_ext [idx t]

/-- The down weights. -/
theorem readD (c : Dev nD) (t : Fin cfg0.N) (k : Fin 2816) (j : Fin 1024) :
    iblk m c 7 t (ix4 0 ⟨k.val / 256, by omega⟩ ⟨k.val % 256, by omega⟩ j) = m ((c : Thread nD τ).loc main_arg6) (ix3 0 k j) := by
  have ht : t.val < 16 := t.isLt
  blk_simp [iblk, idx t]
  entry_read
  pointwise
  blk_ext [idx t]

/-- The array the call returns. -/
theorem final (c : Dev nD) : (dats m 0 c).arrAt 8 (cfgs 0).N
    = Cert.Reference3Ideal.Read.val_main_v31 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 8 _ (by decide +kernel) fun t _ y => ?_
  blk_simp
  rw [after0_8]
  obtain ⟨r, j, rfl⟩ : ∃ r j : Fin 1024, y = ix2 r j := ⟨y 0, y 1, by blk_ext⟩
  have ht : t.val < 16 := t.isLt
  have h : ((cfg0.win 8).blk t).view.emb (ix2 r j) = (ix2 ⟨t.val * 1024 + r.val, by omega⟩ j : S16384x1024.Idx) := by
    blk_ext [idx t]
  refine (out_row m c t _ _ _ _ _ _ _ _ rfl rfl rfl rfl rfl rfl rfl rfl r j).trans ?_
  rw [h]
  refine Eq.trans ?_ (Cert.Reference3Ideal.Ffn.v31_row _ _ _ _ _ _ _ _ _).symm
  simp only [readX, readO, readQ, readV, readW, readG, readU, readD]
  rfl

end Cert.Kernel3Ideal.Ffn

end
-- ==== Proof.Ffn4.lean ====
/- The last layer's residual feed-forward call on the sample group: what a grid point writes. -/
module

public import proofs.«01_k».proof.Proof.FfnTiles
public import proofs.«01_k».proof.Proof.Gen.Kernel4Ideal.Value

@[expose] public section

set_option maxRecDepth 16384

noncomputable section

open Idealize.ShloMosaic Idealize.ShloMosaic.TcCoe Idealize.SL.Sem
open Idealize.ShloMosaic.Pipeline (Dat)

namespace Cert.Kernel4Ideal.Ffn

open Cert.Kernel4Ideal Cert.Kernel4Ideal.Gen Cert.Ffn

variable (m : (ℓ : Loc nD τ sig) → Buf (Elt Ideal) ℓ)

/-- One tile of the hidden layer added to the rows' totals. -/
def tile (xn : FVec Ideal S128x1024 .bf16) (wg wu : FVec Ideal S1x1024x256 .bf16) (acc : FVec Ideal S128x1024 .f32)
    (wd : FVec Ideal S1x1x256x1024 .bf16) : FVec Ideal S128x1024 .f32 :=
  k0_pay5 xn (k0_pay4 xn wg) wu acc wd

/-- A tile's step at an index. -/
theorem is_tile : IsTile (M := 128) tile := by
  intro xn wg wu acc wd y
  unfold tile
  pointwise [k0_pay5, k0_pay4, hid]

/-- The residual row at an index. -/
theorem pay2_apply (x : FVec Ideal S128x1024 .f32) (o : FVec Ideal S128x1024 .bf16) (w : FVec Ideal S1024x1024 .bf16) (y : S128x1024.Idx) :
    k0_pay2 (F := Ideal) x o w y = resid (fun d => x (ix2 (y 0) d)) (fun d => o (ix2 (y 0) d)) (fun k j => w (ix2 k j)) (y 1) := by
  pointwise [k0_pay2, resid]

/-- The normalised row at an index. -/
theorem pay3_apply (x : FVec Ideal S128x1024 .f32) (o : FVec Ideal S128x1024 .bf16) (w : FVec Ideal S1024x1024 .bf16) (g : FVec Ideal S1x1024 .f32) (y : S128x1024.Idx) :
    k0_pay3 (F := Ideal) x o w g y = nrm (resid (fun d => x (ix2 (y 0) d)) (fun d => o (ix2 (y 0) d)) (fun k j => w (ix2 k j))) (fun d => g (ix2 0 d)) (y 1) := by
  pointwise [k0_pay3, nrm, pay2_apply]

/-- What a grid point leaves in its output block: the layer's rows over the point's input blocks. -/
theorem out_row (c : Dev nD) (t : Fin cfg0.N) (X : FVec Ideal S128x1024 .f32) (O : FVec Ideal S128x1024 .bf16) (W : FVec Ideal S1024x1024 .bf16)
    (g : FVec Ideal S1x1024 .f32) (U : FVec Ideal S1x1024x5632 .bf16) (D : FVec Ideal S1x11x256x1024 .bf16)
    (h0 : iblk m c 0 t = X) (h1 : iblk m c 1 t = O) (h2 : iblk m c 2 t = W) (h3 : iblk m c 3 t = g) (h4 : iblk m c 4 t = U) (h5 : iblk m c 5 t = D) (r : Fin 128) (j : Fin 1024) :
    outsAt0 m c t (ix2 r j) = rowOut (resid (fun d => X (ix2 r d)) (fun d => O (ix2 r d)) (fun k j => W (ix2 k j)))
      (nrm (resid (fun d => X (ix2 r d)) (fun d => O (ix2 r d)) (fun k j => W (ix2 k j))) (fun d => g (ix2 0 d)))
      (fun d k => U (ix3 0 d k)) (fun k j => D (ix4 0 ⟨k.val / 256, by omega⟩ ⟨k.val % 256, by omega⟩ j)) j := by
  unfold outsAt0
  rw [h0, h1, h2, h3, h4, h5]
  frame_open
  simp (disch := decide) only [↓ View.readCov_skip, ↓ View.readCov_cons_toLoadRect, ↓ View.readCov_fill]
  frame_out
  have hn : nrm (resid (fun d => X (ix2 r d)) (fun d => O (ix2 r d)) (fun k j => W (ix2 k j))) (fun d => g (ix2 0 d))
      = fun d => k0_pay3 (F := Ideal) X O W g (ix2 r d) := funext fun d => (pay3_apply X O W g (ix2 r d)).symm
  have hr : resid (fun d => X (ix2 r d)) (fun d => O (ix2 r d)) (fun k j => W (ix2 k j)) j
      = k0_pay2 (F := Ideal) X O W (ix2 r j) := (pay2_apply X O W (ix2 r j)).symm
  rw [rowOut, hr, hn]
  generalize k0_pay3 (F := Ideal) X O W g = xn
  generalize k0_pay2 (F := Ideal) X O W = a
  show tile xn _ _ (tile xn _ _ (tile xn _ _ (tile xn _ _ (tile xn _ _ (tile xn _ _ (tile xn _ _ (tile xn _ _ (tile xn _ _
    (tile xn _ _ (tile xn _ _ a _) _) _) _) _) _) _) _) _) _) _ (ix2 r j) = _
  exact chain (M := 128) (T := tile) is_tile xn U D a r j _ _ _ _ _ _ _ _ _ _ _ _ _ _ _ _ _ _ _ _ _ _ _ _ _ _ _ _ _ _ _ _ _

end Cert.Kernel4Ideal.Ffn

end
-- ==== Proof.FfnRef4.lean ====
/- The reference of the sample group's feed-forward call, row by row. -/
module

public import proofs.«01_k».proof.Proof.FfnTiles
public import proofs.«01_k».proof.Proof.Gen.Reference4Ideal.Run
public import proofs.«01_k».proof.Proof.Gen.Reference4Ideal.Read

@[expose] public section

set_option maxRecDepth 16384

noncomputable section

open Idealize.ShloMosaic Idealize.ShloMosaic.TcCoe Idealize.SL.Sem

namespace Cert.Reference4Ideal.Ffn

open Cert.Reference4Ideal Cert.Reference4Ideal.Gen Cert.Reference4Ideal.Read Cert.Ffn

variable (x0 : FVec Ideal S128x1x1024 .f32) (x1 : FVec Ideal S128x1x16x64 .f32) (x2 : FVec Ideal S1x1024x1024 .f32)
  (x3 : FVec Ideal S2x1024 .f32) (x4 : FVec Ideal S2x1024x5632 .f32) (x5 : FVec Ideal S2x2816x1024 .f32)

/-- The residual row of the token `s` of sequence `b`. -/
def res (b : Fin 128) (s : Fin 1) : Fin 1024 → EReal :=
  resid (fun d => x0 (ix3 b s d)) (fun k => x1 (ix4 b s ⟨k.val / 64, by omega⟩ ⟨k.val % 64, by omega⟩)) (fun k j => x2 (ix3 0 k j))

/-- The normalised row of the token `s` of sequence `b`. -/
def nor (b : Fin 128) (s : Fin 1) : Fin 1024 → EReal := nrm (res x0 x1 x2 b s) (fun d => x3 (ix2 1 d))

/-- The layer's output row of the token `s` of sequence `b`. -/
def row (b : Fin 128) (s : Fin 1) : Fin 1024 → EReal :=
  rowOut (res x0 x1 x2 b s) (nor x0 x1 x2 x3 b s) (fun d k => x4 (ix3 1 d k)) (fun k j => x5 (ix3 1 k j))

/-- The residual stream. -/
theorem v3_row (b : Fin 128) (s : Fin 1) (j : Fin 1024) :
    val_main_v3 (F := Ideal) x0 x1 x2 (ix3 b s j) = res x0 x1 x2 b s j := by
  refine (val_main_v3_apply _ _ _ _).trans (congrArg _ ((val_main_v2_apply _ _ _).trans (Finset.sum_congr rfl fun k _ => ?_)))
  refine congr_arg₂ _ ((val_main_v0_apply _ _).trans (congrArg x1 ?_)) ((val_main_v1_apply _ _).trans (congrArg x2 ?_)) <;> blk_ext

/-- The normalised stream. -/
theorem v22_row (b : Fin 128) (s : Fin 1) (j : Fin 1024) :
    val_main_v22 (F := Ideal) x0 x1 x2 x3 (ix3 b s j) = nor x0 x1 x2 x3 b s j := by
  have hs : val_main_v11 (F := Ideal) x0 x1 x2 (ix2 b s) = ∑ d, res x0 x1 x2 b s d * res x0 x1 x2 b s d := by
    refine (val_main_v11_apply _ _ _ _).trans ?_
    rw [val_main_cst_apply]
    refine (congrArg (· + _) Ideal.ofBits_zero_f32).trans ((zero_add _).trans (Finset.sum_congr rfl fun k _ => ?_))
    rw [val_main_v10_apply]
    have h : idx_main_v11 (ix2 b s) k = ix3 b s k := by blk_ext
    rw [h, v3_row]; rfl
  rw [val_main_v22_apply, val_main_v19_apply, val_main_v18_apply, val_main_v17_apply, val_main_v16_apply, val_main_v14_apply,
    val_main_v15_apply, val_main_v13_apply, val_main_v12_apply, val_main_cst_0_apply, val_main_cst_1_apply, val_main_v21_apply,
    val_main_v20_apply, val_main_v5_apply, val_main_v4_apply, v3_row]
  have h : idx_main_v12 (idx_main_v18 (ix3 b s j)) = ix2 b s := by blk_ext
  have h' : idx_main_v4 (idx_main_v5 (idx_main_v20 (idx_main_v21 (ix3 b s j)))) = ix2 1 j := by blk_ext
  rw [h, h', hs]
  rfl

/-- The gate and up columns. -/
theorem v23_row (b : Fin 128) (s : Fin 1) (k : Fin 5632) :
    val_main_v23 (F := Ideal) x0 x1 x2 x3 x4 (ix3 b s k) = gu (nor x0 x1 x2 x3 b s) (fun d k => x4 (ix3 1 d k)) k := by
  refine (val_main_v23_apply _ _ _ _ _ _).trans (Finset.sum_congr rfl fun d _ => ?_)
  have h : lidx_main_v23 (ix3 b s k) d = ix3 b s d := by blk_ext
  rw [h, v22_row]
  refine congrArg _ ((val_main_v7_apply _ _).trans ((val_main_v6_apply _ _).trans (congrArg x4 ?_)))
  blk_ext

/-- The reference's result at a row and a column. -/
theorem v30_row (R : Fin 128) (j : Fin 1024) :
    val_main_v30 (F := Ideal) x0 x1 x2 x3 x4 x5 (ix2 R j)
      = row x0 x1 x2 x3 x4 x5 R 0 j := by
  have h : idx_main_v30 (ix2 R j) = ix3 R 0 j := by blk_ext
  rw [val_main_v30_apply, h, val_main_v29_apply, v3_row]
  generalize R = b
  generalize (0 : Fin 1) = s
  refine congrArg _ ((val_main_v28_apply _ _ _ _ _ _ _).trans (Finset.sum_congr rfl fun k _ => ?_))
  have h1 : lidx_main_v28 (ix3 b s j) k = ix3 b s k := by blk_ext
  have h2 : idx_main_v24 (ix3 b s k) = ix3 b s ⟨k.val, by omega⟩ := by blk_ext
  have h3 : idx_main_v25 (ix3 b s k) = ix3 b s ⟨2816 + k.val, by omega⟩ := by blk_ext
  rw [h1, val_main_v27_apply, val_main_v26_apply, val_main_call0_v5_apply, val_main_call0_v4_apply, val_main_call0_v3_apply,
    val_main_call0_v2_apply, val_main_call0_v1_apply, val_main_call0_v0_apply, val_main_call0_cst_apply, val_main_call0_cst_0_apply,
    val_main_v24_apply, val_main_v25_apply, h2, h3, v23_row, v23_row]
  refine congr_arg₂ _ ?_ ((val_main_v9_apply _ _).trans ((val_main_v8_apply _ _).trans (congrArg x5 ?_)))
  · generalize gu _ _ _ = a
    generalize gu _ _ _ = u
    show a * Ideal.div (Ideal.ofBits .f32 0x3F800000#32) (Ideal.ofBits .f32 0x3F800000#32 + Ideal.exp (-a)) * u = _
    rw [Ideal.ofBits_one_f32, hid, zero_sub]
  · blk_ext

end Cert.Reference4Ideal.Ffn

end
-- ==== Proof.FfnFinal4.lean ====
/- The sample group's feed-forward call writes the reference's rows. -/
module

public import proofs.«01_k».proof.Proof.Ffn4
public import proofs.«01_k».proof.Proof.FfnRef4

@[expose] public section

set_option maxRecDepth 16384

noncomputable section

open Idealize.ShloMosaic Idealize.ShloMosaic.TcCoe Idealize.SL.Sem
open Idealize.ShloMosaic.Pipeline (Dat)

namespace Cert.Kernel4Ideal.Ffn

open Cert.Kernel4Ideal Cert.Kernel4Ideal.Gen Cert.Ffn

variable (m : (ℓ : Loc nD τ sig) → Buf (Elt Ideal) ℓ)

/-- The block of each window at a grid point. -/
theorem idx : ∀ t : Fin cfg0.N, win0_0.index t = ![t.val, 0] ∧ win0_1.index t = ![t.val, 0] ∧ win0_2.index t = ![0, 0]
    ∧ win0_3.index t = ![0, 0] ∧ win0_4.index t = ![1, 0, 0] ∧ win0_5.index t = ![1, 0, 0, 0] ∧ win0_6.index t = ![t.val, 0] :=
  (by decide +kernel : ∀ t : Fin grid0.N, _)

/-- The input rows of a grid point. -/
theorem readX (c : Dev nD) (t : Fin cfg0.N) (r : Fin 128) (d : Fin 1024) :
    iblk m c 0 t (ix2 r d) = m ((c : Thread nD τ).loc main_arg0)
      (ix3 r 0 d) := by
  have ht : t.val < 1 := t.isLt
  blk_simp [iblk, idx t]
  entry_read
  pointwise
  blk_ext [idx t]

/-- The attention rows of a grid point. -/
theorem readO (c : Dev nD) (t : Fin cfg0.N) (r : Fin 128) (k : Fin 1024) :
    iblk m c 1 t (ix2 r k) = m ((c : Thread nD τ).loc main_arg1)
      (ix4 r 0 ⟨k.val / 64, by omega⟩ ⟨k.val % 64, by omega⟩) := by
  have ht : t.val < 1 := t.isLt
  blk_simp [iblk, idx t]
  entry_read
  pointwise
  blk_ext [idx t]

/-- The output projection. -/
theorem readW (c : Dev nD) (t : Fin cfg0.N) (k j : Fin 1024) :
    iblk m c 2 t (ix2 k j) = m ((c : Thread nD τ).loc main_arg2)
      (ix3 0 k j) := by
  have ht : t.val < 1 := t.isLt
  blk_simp [iblk, idx t]
  entry_read
  pointwise
  blk_ext [idx t]

/-- The gains. -/
theorem readG (c : Dev nD) (t : Fin cfg0.N) (d : Fin 1024) :
    iblk m c 3 t (ix2 0 d) = m ((c : Thread nD τ).loc main_arg3)
      (ix2 1 d) := by
  have ht : t.val < 1 := t.isLt
  blk_simp [iblk, idx t]
  entry_read
  pointwise
  blk_ext [idx t]

/-- The gate-and-up weights. -/
theorem readU (c : Dev nD) (t : Fin cfg0.N) (d : Fin 1024) (k : Fin 5632) :
    iblk m c 4 t (ix3 0 d k) = m ((c : Thread nD τ).loc main_arg4)
      (ix3 1 d k) := by
  have ht : t.val < 1 := t.isLt
  blk_simp [iblk, idx t]
  entry_read
  pointwise
  blk_ext [idx t]

/-- The down weights. -/
theorem readD (c : Dev nD) (t : Fin cfg0.N) (k : Fin 2816) (j : Fin 1024) :
    iblk m c 5 t (ix4 0 ⟨k.val / 256, by omega⟩ ⟨k.val % 256, by omega⟩ j) = m ((c : Thread nD τ).loc main_arg5)
      (ix3 1 k j) := by
  have ht : t.val < 1 := t.isLt
  blk_simp [iblk, idx t]
  entry_read
  pointwise
  blk_ext [idx t]

/-- The array the call returns. -/
theorem final (c : Dev nD) : (dats m 0 c).arrAt 6 (cfgs 0).N
    = Cert.Reference4Ideal.Read.val_main_v30 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t _ y => ?_
  blk_simp
  rw [after0_6]
  obtain ⟨r, j, rfl⟩ : ∃ (r : Fin 128) (j : Fin 1024), y = ix2 r j := ⟨y 0, y 1, by blk_ext⟩
  have ht : t.val < 1 := t.isLt
  have h : ((cfg0.win 6).blk t).view.emb (ix2 r j) = (ix2 r j : S128x1024.Idx) := by
    blk_ext [idx t]
  refine (out_row m c t _ _ _ _ _ _ rfl rfl rfl rfl rfl rfl r j).trans ?_
  rw [h]
  refine Eq.trans ?_ (Cert.Reference4Ideal.Ffn.v30_row _ _ _ _ _ _ _ _).symm
  simp only [readX, readO, readW, readG, readU, readD]
  rfl

end Cert.Kernel4Ideal.Ffn

end
-- ==== Proof.Proj.lean ====
/- The input projection of the first layer: what a grid point writes. -/
module

public import proofs.«01_k».proof.Proof.FfnTiles
public import proofs.«01_k».proof.Proof.Gen.Kernel5Ideal.Value

@[expose] public section

set_option maxRecDepth 16384

noncomputable section

open Idealize.ShloMosaic Idealize.ShloMosaic.TcCoe Idealize.SL.Sem
open Idealize.ShloMosaic.Pipeline (Dat)

namespace Cert.Kernel5Ideal.Proj

open Cert.Kernel5Ideal Cert.Kernel5Ideal.Gen Cert.Ffn

variable (m : (ℓ : Loc nD τ sig) → Buf (Elt Ideal) ℓ)

/-- A normalised row times one column. -/
def lin (x g w : Fin 1024 → EReal) : EReal := ∑ d, nrm x g d * w d

/-- The narrow columns side by side, filled up with zeros: columns 2048 to 2055, then 3592 to 3599. -/
def narrow (w : Fin 3600 → EReal) (k : Fin 128) : EReal :=
  if h : k.val < 8 then w ⟨2048 + k.val, by omega⟩ else if h : k.val < 16 then w ⟨3584 + k.val, by omega⟩ else 0

/-- The normalised row at an index. -/
theorem pay3_apply (x : FVec Ideal S512x1024 .f32) (g : FVec Ideal S1x1024 .f32) (r : Fin 512) (d : Fin 1024) :
    k0_pay3 (F := Ideal) x g (ix2 r d) = nrm (fun d => x (ix2 r d)) (fun d => g (ix2 0 d)) d := by
  pointwise [k0_pay3, nrm]

section
variable (x : FVec Ideal S512x1024 .f32) (g : FVec Ideal S1x1024 .f32) (w2 : FVec Ideal S1024x1536 .bf16) (w3 w4 : FVec Ideal S1024x512 .bf16)
  (w5 : FVec Ideal S1024x1024 .bf16) (w6 : FVec Ideal S1024x128 .bf16)

/-- Output window 7 of a grid point: its rows times the 1536 columns of the window's weights. -/
theorem out7_row (r : Fin 512) (j : Fin 1536) : out0_7 (F := Ideal) x g w2 w3 w4 w5 w6 (ix2 r j)
    = lin (fun d => x (ix2 r d)) (fun d => g (ix2 0 d)) (fun d => w2 (ix2 d j)) := by
  unfold_out out0_7
  frame_out
  unfold lin
  simp only [← pay3_apply x g]
  pointwise [k0_pay4]

/-- Output window 8 of a grid point: its rows times the 512 columns of the window's weights. -/
theorem out8_row (r : Fin 512) (j : Fin 512) : out0_8 (F := Ideal) x g w2 w3 w4 w5 w6 (ix2 r j)
    = lin (fun d => x (ix2 r d)) (fun d => g (ix2 0 d)) (fun d => w3 (ix2 d j)) := by
  unfold_out out0_8
  frame_out
  unfold lin
  simp only [← pay3_apply x g]
  pointwise [k0_pay5]

/-- Output window 9 of a grid point: its rows times the 512 columns of the window's weights. -/
theorem out9_row (r : Fin 512) (j : Fin 512) : out0_9 (F := Ideal) x g w2 w3 w4 w5 w6 (ix2 r j)
    = lin (fun d => x (ix2 r d)) (fun d => g (ix2 0 d)) (fun d => w4 (ix2 d j)) := by
  unfold_out out0_9
  frame_out
  unfold lin
  simp only [← pay3_apply x g]
  pointwise [k0_pay6]

/-- Output window 10 of a grid point: its rows times the 1024 columns of the window's weights. -/
theorem out10_row (r : Fin 512) (j : Fin 1024) : out0_10 (F := Ideal) x g w2 w3 w4 w5 w6 (ix2 r j)
    = lin (fun d => x (ix2 r d)) (fun d => g (ix2 0 d)) (fun d => w5 (ix2 d j)) := by
  unfold_out out0_10
  frame_out
  unfold lin
  simp only [← pay3_apply x g]
  generalize k0_pay3 (F := Ideal) x g = n
  pointwise [k0_pay1, k0_pay7]

/-- Output window 11 of a grid point: its rows times the 128 columns of the window's weights. -/
theorem out11_row (r : Fin 512) (j : Fin 128) : out0_11 (F := Ideal) x g w2 w3 w4 w5 w6 (ix2 r j)
    = lin (fun d => x (ix2 r d)) (fun d => g (ix2 0 d)) (fun d => w6 (ix2 d j)) := by
  unfold_out out0_11
  frame_out
  unfold lin
  simp only [← pay3_apply x g]
  generalize k0_pay3 (F := Ideal) x g = n
  pointwise [k0_pay2]

end

end Cert.Kernel5Ideal.Proj

end
-- ==== Proof.ProjRef.lean ====
/- The reference of the input projection, row by row. -/
module

public import proofs.«01_k».proof.Proof.Proj
public import proofs.«01_k».proof.Proof.Gen.Reference5Ideal.Run
public import proofs.«01_k».proof.Proof.Gen.Reference5Ideal.Read

@[expose] public section

set_option maxRecDepth 16384

noncomputable section

open Idealize.ShloMosaic Idealize.ShloMosaic.TcCoe Idealize.SL.Sem

namespace Cert.Reference5Ideal.Proj

open Cert.Reference5Ideal Cert.Reference5Ideal.Gen Cert.Reference5Ideal.Read Cert.Ffn Cert.Kernel5Ideal.Proj

variable (x0 : FVec Ideal S4x4096x1024 .f32) (x1 : FVec Ideal S1x1024 .f32) (x2 : FVec Ideal S1x1024x3600 .f32)

/-- The projection of the token `s` of sequence `b` to one column. -/
def at_col (b : Fin 4) (s : Fin 4096) (w : Fin 1024 → EReal) : EReal :=
  lin (fun d => x0 (ix3 b s d)) (fun d => x1 (ix2 0 d)) w

/-- The normalised stream. -/
theorem v13_row (b : Fin 4) (s : Fin 4096) (j : Fin 1024) :
    val_main_v13 (F := Ideal) x0 x1 (ix3 b s j) = nrm (fun d => x0 (ix3 b s d)) (fun d => x1 (ix2 0 d)) j := by
  have hs : val_main_v2 (F := Ideal) x0 (ix2 b s) = ∑ d, x0 (ix3 b s d) * x0 (ix3 b s d) := by
    refine (val_main_v2_apply _ _).trans ?_
    rw [val_main_cst_apply]
    refine (congrArg (· + _) Ideal.ofBits_zero_f32).trans ((zero_add _).trans (Finset.sum_congr rfl fun k _ => ?_))
    rw [val_main_v1_apply]
    have h : idx_main_v2 (ix2 b s) k = ix3 b s k := by blk_ext
    rw [h]; rfl
  rw [val_main_v13_apply, val_main_v10_apply, val_main_v9_apply, val_main_v8_apply, val_main_v7_apply, val_main_v5_apply,
    val_main_v6_apply, val_main_v4_apply, val_main_v3_apply, val_main_cst_0_apply, val_main_cst_1_apply, val_main_v12_apply,
    val_main_v11_apply, val_main_v0_apply]
  have h : idx_main_v3 (idx_main_v9 (ix3 b s j)) = ix2 b s := by blk_ext
  have h' : idx_main_v0 (idx_main_v11 (idx_main_v12 (ix3 b s j))) = ix2 0 j := by blk_ext
  rw [h, h', hs]
  rfl

/-- The whole projection. -/
theorem v15_row (b : Fin 4) (s : Fin 4096) (k : Fin 3600) :
    val_main_v15 (F := Ideal) x0 x1 x2 (ix3 b s k) = at_col x0 x1 b s (fun d => x2 (ix3 0 d k)) := by
  unfold at_col lin
  refine (val_main_v15_apply _ _ _ _).trans (Finset.sum_congr rfl fun d _ => ?_)
  have h : lidx_main_v15 (ix3 b s k) d = ix3 b s d := by blk_ext
  rw [h, v13_row]
  refine congrArg _ ((val_main_v14_apply _ _).trans (congrArg x2 ?_))
  blk_ext

/-- The part of 1536 columns from column 0 on. -/
theorem v25_row (R : Fin 16384) (j : Fin 1536) : val_main_v25 (F := Ideal) x0 x1 x2 (ix2 R j)
    = at_col x0 x1 ⟨R.val / 4096, by omega⟩ ⟨R.val % 4096, by omega⟩ (fun d => x2 (ix3 0 d ⟨j.val, by omega⟩)) := by
  have h : idx_main_v16 (idx_main_v25 (ix2 R j)) = ix3 ⟨R.val / 4096, by omega⟩ ⟨R.val % 4096, by omega⟩ ⟨j.val, by omega⟩ := by blk_ext
  rw [val_main_v25_apply, val_main_v16_apply, h, v15_row]

/-- The part of 512 columns from column 1536 on. -/
theorem v26_row (R : Fin 16384) (j : Fin 512) : val_main_v26 (F := Ideal) x0 x1 x2 (ix2 R j)
    = at_col x0 x1 ⟨R.val / 4096, by omega⟩ ⟨R.val % 4096, by omega⟩ (fun d => x2 (ix3 0 d ⟨1536 + j.val, by omega⟩)) := by
  have h : idx_main_v17 (idx_main_v26 (ix2 R j)) = ix3 ⟨R.val / 4096, by omega⟩ ⟨R.val % 4096, by omega⟩ ⟨1536 + j.val, by omega⟩ := by blk_ext
  rw [val_main_v26_apply, val_main_v17_apply, h, v15_row]

/-- The part of 512 columns from column 2056 on. -/
theorem v27_row (R : Fin 16384) (j : Fin 512) : val_main_v27 (F := Ideal) x0 x1 x2 (ix2 R j)
    = at_col x0 x1 ⟨R.val / 4096, by omega⟩ ⟨R.val % 4096, by omega⟩ (fun d => x2 (ix3 0 d ⟨2056 + j.val, by omega⟩)) := by
  have h : idx_main_v20 (idx_main_v27 (ix2 R j)) = ix3 ⟨R.val / 4096, by omega⟩ ⟨R.val % 4096, by omega⟩ ⟨2056 + j.val, by omega⟩ := by blk_ext
  rw [val_main_v27_apply, val_main_v20_apply, h, v15_row]

/-- The part of 1024 columns from column 2568 on. -/
theorem v28_row (R : Fin 16384) (j : Fin 1024) : val_main_v28 (F := Ideal) x0 x1 x2 (ix2 R j)
    = at_col x0 x1 ⟨R.val / 4096, by omega⟩ ⟨R.val % 4096, by omega⟩ (fun d => x2 (ix3 0 d ⟨2568 + j.val, by omega⟩)) := by
  have h : idx_main_v21 (idx_main_v28 (ix2 R j)) = ix3 ⟨R.val / 4096, by omega⟩ ⟨R.val % 4096, by omega⟩ ⟨2568 + j.val, by omega⟩ := by blk_ext
  rw [val_main_v28_apply, val_main_v21_apply, h, v15_row]

/-- A row times a column of zeros. -/
theorem at_col_zero (b : Fin 4) (s : Fin 4096) : at_col x0 x1 b s (fun _ => 0) = 0 := by
  unfold at_col lin
  exact Finset.sum_eq_zero fun d _ => mul_zero _

/-- The narrow parts side by side. -/
theorem v24_row (b : Fin 4) (s : Fin 4096) (j : Fin 128) : val_main_v24 (F := Ideal) x0 x1 x2 (ix3 b s j)
    = at_col x0 x1 b s (fun d => narrow (fun k => x2 (ix3 0 d k)) j) := by
  have h18 : ∀ k : Fin 4, val_main_v18 (F := Ideal) x0 x1 x2 (ix3 b s k) = at_col x0 x1 b s (fun d => x2 (ix3 0 d ⟨2048 + k.val, by omega⟩)) := by
    intro k
    have h : idx_main_v18 (ix3 b s k) = ix3 b s ⟨2048 + k.val, by omega⟩ := by blk_ext
    rw [val_main_v18_apply, h, v15_row]
  have h19 : ∀ k : Fin 4, val_main_v19 (F := Ideal) x0 x1 x2 (ix3 b s k) = at_col x0 x1 b s (fun d => x2 (ix3 0 d ⟨2052 + k.val, by omega⟩)) := by
    intro k
    have h : idx_main_v19 (ix3 b s k) = ix3 b s ⟨2052 + k.val, by omega⟩ := by blk_ext
    rw [val_main_v19_apply, h, v15_row]
  have h22 : ∀ k : Fin 8, val_main_v22 (F := Ideal) x0 x1 x2 (ix3 b s k) = at_col x0 x1 b s (fun d => x2 (ix3 0 d ⟨3592 + k.val, by omega⟩)) := by
    intro k
    have h : idx_main_v22 (ix3 b s k) = ix3 b s ⟨3592 + k.val, by omega⟩ := by blk_ext
    rw [val_main_v22_apply, h, v15_row]
  unfold val_main_v24 val_main_v23
  generalize val_main_v18 (F := Ideal) x0 x1 x2 = a at h18 ⊢
  generalize val_main_v19 (F := Ideal) x0 x1 x2 = b' at h19 ⊢
  generalize val_main_v22 (F := Ideal) x0 x1 x2 = d' at h22 ⊢
  unfold narrow
  pointwise [val_main_call0_v0, val_main_c]
  by_cases h0 : j.val < 4
  · rw [dif_pos (by omega), dif_pos h0, h18]
    simp only [show j.val < 8 by omega, ↓reduceDIte]
  by_cases h1 : j.val < 8
  · rw [dif_pos (by omega), dif_neg h0, dif_pos (by omega), h19]
    simp only [h1, ↓reduceDIte]
    exact congrArg (at_col x0 x1 b s) (funext fun d => congrArg x2 (by blk_ext))
  by_cases h2 : j.val < 16
  · rw [dif_pos h2, dif_neg h0, dif_neg (by omega), h22]
    simp only [h1, h2, ↓reduceDIte]
    exact congrArg (at_col x0 x1 b s) (funext fun d => congrArg x2 (by blk_ext))
  · rw [dif_neg h2]
    simp only [h1, h2, ↓reduceDIte]
    rw [at_col_zero]
    simp [FloatOps.sitofp]

/-- The narrow parts as rows. -/
theorem v29_row (R : Fin 16384) (j : Fin 128) : val_main_v29 (F := Ideal) x0 x1 x2 (ix2 R j)
    = at_col x0 x1 ⟨R.val / 4096, by omega⟩ ⟨R.val % 4096, by omega⟩ (fun d => narrow (fun k => x2 (ix3 0 d k)) j) := by
  have h : idx_main_v29 (ix2 R j) = ix3 ⟨R.val / 4096, by omega⟩ ⟨R.val % 4096, by omega⟩ j := by blk_ext
  rw [val_main_v29_apply, h, v24_row]

end Cert.Reference5Ideal.Proj

end
-- ==== Proof.ProjFinal.lean ====
/- The input projection writes what its reference computes, in each of its five outputs. -/
module

public import proofs.«01_k».proof.Proof.Proj
public import proofs.«01_k».proof.Proof.ProjRef
public import Idealize.ShloMosaic.Lib.StableHlo.ReadAt
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Kernel5Ideal.Proj

open Cert.Kernel5Ideal Cert.Kernel5Ideal.Gen Cert.Ffn

variable (m : (ℓ : Loc nD τ sig) → Buf (Elt Ideal) ℓ)

/-- The block of each window at a grid point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] ∧ win0_10.index t = ![t.val, 0] ∧ win0_11.index t = ![t.val, 0] :=
  (by decide +kernel : ∀ t : Fin grid0.N, _)

/-- The input rows of a grid point. -/
theorem readX (c : Dev nD) (t : Fin cfg0.N) (r : Fin 512) (d : Fin 1024) :
    iblk m c 0 t (ix2 r d) = m ((c : Thread nD τ).loc main_arg0) (ix3 ⟨(t.val * 512 + r.val) / 4096, by have := t.isLt; change t.val < 32 at this; omega⟩ ⟨(t.val * 512 + r.val) % 4096, by omega⟩ d) := by
  have ht : t.val < 32 := t.isLt
  blk_simp [iblk, idx t]
  unfold V
  simp only [List.flatten_cons, List.flatten_nil, List.append_nil, List.cons_append, List.nil_append]
  after_reads_simp
  pointwise
  blk_ext [idx t]

/-- The gains. -/
theorem readG (c : Dev nD) (t : Fin cfg0.N) (d : Fin 1024) :
    iblk m c 1 t (ix2 0 d) = m ((c : Thread nD τ).loc main_arg1) (ix2 0 d) := by
  have ht : t.val < 32 := t.isLt
  blk_simp [iblk, idx t]
  unfold V
  simp only [List.flatten_cons, List.flatten_nil, List.append_nil, List.cons_append, List.nil_append]
  after_reads_simp
  pointwise
  blk_ext [idx t]

/-- The weights of input window 2: 1536 columns from column 0 on. -/
theorem readW2 (c : Dev nD) (t : Fin cfg0.N) (d : Fin 1024) (k : Fin 1536) :
    iblk m c 2 t (ix2 d k) = m ((c : Thread nD τ).loc main_arg2) (ix3 0 d ⟨k.val, by omega⟩) := by
  have ht : t.val < 32 := t.isLt
  blk_simp [iblk, idx t]
  unfold V
  simp only [List.flatten_cons, List.flatten_nil, List.append_nil, List.cons_append, List.nil_append]
  after_reads_simp
  pointwise
  blk_ext [idx t]

/-- The weights of input window 3: 512 columns from column 1536 on. -/
theorem readW3 (c : Dev nD) (t : Fin cfg0.N) (d : Fin 1024) (k : Fin 512) :
    iblk m c 3 t (ix2 d k) = m ((c : Thread nD τ).loc main_arg2) (ix3 0 d ⟨1536 + k.val, by omega⟩) := by
  have ht : t.val < 32 := t.isLt
  blk_simp [iblk, idx t]
  unfold V
  simp only [List.flatten_cons, List.flatten_nil, List.append_nil, List.cons_append, List.nil_append]
  after_reads_simp
  pointwise
  blk_ext [idx t]

/-- The weights of input window 4: 512 columns from column 2056 on. -/
theorem readW4 (c : Dev nD) (t : Fin cfg0.N) (d : Fin 1024) (k : Fin 512) :
    iblk m c 4 t (ix2 d k) = m ((c : Thread nD τ).loc main_arg2) (ix3 0 d ⟨2056 + k.val, by omega⟩) := by
  have ht : t.val < 32 := t.isLt
  blk_simp [iblk, idx t]
  unfold V
  simp only [List.flatten_cons, List.flatten_nil, List.append_nil, List.cons_append, List.nil_append]
  after_reads_simp
  pointwise
  blk_ext [idx t]

/-- The weights of input window 5: 1024 columns from column 2568 on. -/
theorem readW5 (c : Dev nD) (t : Fin cfg0.N) (d : Fin 1024) (k : Fin 1024) :
    iblk m c 5 t (ix2 d k) = m ((c : Thread nD τ).loc main_arg2) (ix3 0 d ⟨2568 + k.val, by omega⟩) := by
  have ht : t.val < 32 := t.isLt
  blk_simp [iblk, idx t]
  unfold V
  simp only [List.flatten_cons, List.flatten_nil, List.append_nil, List.cons_append, List.nil_append]
  after_reads_simp
  pointwise
  blk_ext [idx t]

/-- The weights with the leading axis dropped. -/
def flat (w : FVec Ideal S1x1024x3600 .f32) : FVec Ideal S1024x3600 .bf16 :=
  truncf .bf16 (shapeCast S1024x3600 w shapeCasts_S1x1024x3600_S1024x3600) bitsLt_bf16_f32

/-- The narrow weights as the call prepares them. -/
def packed (w : FVec Ideal S1x1024x3600 .f32) : FVec Ideal S1024x128 .bf16 :=
  truncf .bf16 (pad S1024x128 ![0, 0] ![0, 112] ![0, 0]
    (extf .f32 (concatenate S1024x16 1
      [⟨S1024x4, (extractStridedSlice S1024x4 ![0, 2048] (flat w) slices_S1024x3600_S1024x4_0_2048 : FVec Ideal S1024x4 .bf16)⟩,
       ⟨S1024x4, (extractStridedSlice S1024x4 ![0, 2052] (flat w) slices_S1024x3600_S1024x4_0_2052 : FVec Ideal S1024x4 .bf16)⟩,
       ⟨S1024x8, (extractStridedSlice S1024x8 ![0, 3592] (flat w) slices_S1024x3600_S1024x8_0_3592 : FVec Ideal S1024x8 .bf16)⟩]
      concatenates_S1024x4_S1024x4_S1024x8_S1024x16_d1 : FVec Ideal S1024x16 .bf16) bitsLt_bf16_f32)
    (sitofp .f32 (constantI S_ 32 0#32) : FVec Ideal S_ .f32) pads_S1024x16_S1024x128_000_01120 h_S_) bitsLt_bf16_f32

/-- The narrow weights the call reads. -/
theorem V12 (c : Dev nD) : (V m c main_v12 : FVec Ideal S1024x128 .bf16) = packed (m ((c : Thread nD τ).loc main_arg2)) := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  dsimp only [Matrix.cons_val]
  rfl

/-- The flat weights at an index. -/
theorem flat_apply (w : FVec Ideal S1x1024x3600 .f32) (d : Fin 1024) (k : Fin 3600) : flat w (ix2 d k) = w (ix3 0 d k) := by
  unfold flat
  pointwise

/-- The narrow weights at an index. -/
theorem packed_apply (w : FVec Ideal S1x1024x3600 .f32) (d : Fin 1024) (k : Fin 128) :
    packed w (ix2 d k) = narrow (fun j => w (ix3 0 d j)) k := by
  have h := flat_apply w d
  unfold packed narrow
  generalize flat w = z at h ⊢
  pointwise
  by_cases h0 : k.val < 4
  · rw [dif_pos (by omega), dif_pos h0, dif_pos (by omega), ← h]
  by_cases h1 : k.val < 8
  · rw [dif_pos (by omega), dif_neg h0, dif_pos (by omega), dif_pos h1, ← h]
    exact congrArg z (by blk_ext)
  by_cases h2 : k.val < 16
  · rw [dif_pos h2, dif_neg h0, dif_neg (by omega), dif_neg h1, dif_pos h2, ← h]
    exact congrArg z (by blk_ext)
  · rw [dif_neg h2, dif_neg h1, dif_neg h2]
    simp [FloatOps.sitofp]

/-- The narrow weights of a grid point. -/
theorem readW6 (c : Dev nD) (t : Fin cfg0.N) (d : Fin 1024) (k : Fin 128) :
    iblk m c 6 t (ix2 d k) = narrow (fun j => m ((c : Thread nD τ).loc main_arg2) (ix3 0 d j)) k := by
  have ht : t.val < 32 := t.isLt
  rw [← packed_apply, ← V12]
  blk_simp [iblk, idx t]
  exact congrArg (V m c main_v12) (by blk_ext [idx t])

/-- Output window 7 of the call. -/
theorem final7 (c : Dev nD) : (dats m 0 c).arrAt 7 (cfgs 0).N
    = Cert.Reference5Ideal.Read.val_main_v25 (F := Ideal) (m ((c : Thread nD τ).loc main_arg0)) (m ((c : Thread nD τ).loc main_arg1))
        (m ((c : Thread nD τ).loc main_arg2)) := by
  refine (dats m 0 c).arrAt_eq_of_covers 7 _ (by decide +kernel) fun t _ y => ?_
  blk_simp
  rw [after0_7]
  obtain ⟨r, j, rfl⟩ : ∃ (r : Fin 512) (j : Fin 1536), y = ix2 r j := ⟨y 0, y 1, by blk_ext⟩
  have ht : t.val < 32 := t.isLt
  have h : ((cfg0.win 7).blk t).view.emb (ix2 r j) = (ix2 ⟨t.val * 512 + r.val, by omega⟩ j : S16384x1536.Idx) := by
    blk_ext [idx t]
  refine (out7_row _ _ _ _ _ _ _ r j).trans ?_
  rw [h]
  refine Eq.trans ?_ (Cert.Reference5Ideal.Proj.v25_row _ _ _ _ _).symm
  simp only [readX, readG, readW2]
  rfl

/-- Output window 8 of the call. -/
theorem final8 (c : Dev nD) : (dats m 0 c).arrAt 8 (cfgs 0).N
    = Cert.Reference5Ideal.Read.val_main_v26 (F := Ideal) (m ((c : Thread nD τ).loc main_arg0)) (m ((c : Thread nD τ).loc main_arg1))
        (m ((c : Thread nD τ).loc main_arg2)) := by
  refine (dats m 0 c).arrAt_eq_of_covers 8 _ (by decide +kernel) fun t _ y => ?_
  blk_simp
  rw [after0_8]
  obtain ⟨r, j, rfl⟩ : ∃ (r : Fin 512) (j : Fin 512), y = ix2 r j := ⟨y 0, y 1, by blk_ext⟩
  have ht : t.val < 32 := t.isLt
  have h : ((cfg0.win 8).blk t).view.emb (ix2 r j) = (ix2 ⟨t.val * 512 + r.val, by omega⟩ j : S16384x512.Idx) := by
    blk_ext [idx t]
  refine (out8_row _ _ _ _ _ _ _ r j).trans ?_
  rw [h]
  refine Eq.trans ?_ (Cert.Reference5Ideal.Proj.v26_row _ _ _ _ _).symm
  simp only [readX, readG, readW3]
  rfl

/-- Output window 9 of the call. -/
theorem final9 (c : Dev nD) : (dats m 0 c).arrAt 9 (cfgs 0).N
    = Cert.Reference5Ideal.Read.val_main_v27 (F := Ideal) (m ((c : Thread nD τ).loc main_arg0)) (m ((c : Thread nD τ).loc main_arg1))
        (m ((c : Thread nD τ).loc main_arg2)) := by
  refine (dats m 0 c).arrAt_eq_of_covers 9 _ (by decide +kernel) fun t _ y => ?_
  blk_simp
  rw [after0_9]
  obtain ⟨r, j, rfl⟩ : ∃ (r : Fin 512) (j : Fin 512), y = ix2 r j := ⟨y 0, y 1, by blk_ext⟩
  have ht : t.val < 32 := t.isLt
  have h : ((cfg0.win 9).blk t).view.emb (ix2 r j) = (ix2 ⟨t.val * 512 + r.val, by omega⟩ j : S16384x512.Idx) := by
    blk_ext [idx t]
  refine (out9_row _ _ _ _ _ _ _ r j).trans ?_
  rw [h]
  refine Eq.trans ?_ (Cert.Reference5Ideal.Proj.v27_row _ _ _ _ _).symm
  simp only [readX, readG, readW4]
  rfl

/-- Output window 10 of the call. -/
theorem final10 (c : Dev nD) : (dats m 0 c).arrAt 10 (cfgs 0).N
    = Cert.Reference5Ideal.Read.val_main_v28 (F := Ideal) (m ((c : Thread nD τ).loc main_arg0)) (m ((c : Thread nD τ).loc main_arg1))
        (m ((c : Thread nD τ).loc main_arg2)) := by
  refine (dats m 0 c).arrAt_eq_of_covers 10 _ (by decide +kernel) fun t _ y => ?_
  blk_simp
  rw [after0_10]
  obtain ⟨r, j, rfl⟩ : ∃ (r : Fin 512) (j : Fin 1024), y = ix2 r j := ⟨y 0, y 1, by blk_ext⟩
  have ht : t.val < 32 := t.isLt
  have h : ((cfg0.win 10).blk t).view.emb (ix2 r j) = (ix2 ⟨t.val * 512 + r.val, by omega⟩ j : S16384x1024.Idx) := by
    blk_ext [idx t]
  refine (out10_row _ _ _ _ _ _ _ r j).trans ?_
  rw [h]
  refine Eq.trans ?_ (Cert.Reference5Ideal.Proj.v28_row _ _ _ _ _).symm
  simp only [readX, readG, readW5]
  rfl

/-- Output window 11 of the call. -/
theorem final11 (c : Dev nD) : (dats m 0 c).arrAt 11 (cfgs 0).N
    = Cert.Reference5Ideal.Read.val_main_v29 (F := Ideal) (m ((c : Thread nD τ).loc main_arg0)) (m ((c : Thread nD τ).loc main_arg1))
        (m ((c : Thread nD τ).loc main_arg2)) := by
  refine (dats m 0 c).arrAt_eq_of_covers 11 _ (by decide +kernel) fun t _ y => ?_
  blk_simp
  rw [after0_11]
  obtain ⟨r, j, rfl⟩ : ∃ (r : Fin 512) (j : Fin 128), y = ix2 r j := ⟨y 0, y 1, by blk_ext⟩
  have ht : t.val < 32 := t.isLt
  have h : ((cfg0.win 11).blk t).view.emb (ix2 r j) = (ix2 ⟨t.val * 512 + r.val, by omega⟩ j : S16384x128.Idx) := by
    blk_ext [idx t]
  refine (out11_row _ _ _ _ _ _ _ r j).trans ?_
  rw [h]
  refine Eq.trans ?_ (Cert.Reference5Ideal.Proj.v29_row _ _ _ _ _).symm
  simp only [readX, readG, readW6]
  rfl

end Cert.Kernel5Ideal.Proj

end
-- ==== Proof.FlashMath.lean ====
/- Attention of one query, key by key: a running maximum and a running weighted sum. -/
module

public import Idealize.ShloMosaic.Lib.Pointwise
public import Mathlib.Analysis.SpecialFunctions.Pow.Real

@[expose] public section

noncomputable section

open Idealize.ShloMosaic Finset

namespace Cert.Softmax

/-- After the first `n` keys: nothing seen, or a real reference point `μ` and the values weighted by the powers of two of the
    scores' distances from it. -/
def St (σ : ℕ → ℝ) (v : ℕ → EReal) (n : ℕ) (M A : EReal) : Prop :=
  (n = 0 ∧ M = ⊥ ∧ A = 0) ∨ (0 < n ∧ ∃ μ : ℝ, M = (μ : EReal) ∧ A = ∑ t ∈ range n, (((2 : ℝ) ^ (σ t - μ) : ℝ) : EReal) * v t)

/-- A nonnegative real factor goes into a finite sum of extended reals. -/
theorem coe_mul_sum {ι : Type} (s : Finset ι) (f : ι → EReal) (r : ℝ) (hr : 0 ≤ r) :
    (r : EReal) * ∑ i ∈ s, f i = ∑ i ∈ s, (r : EReal) * f i := by
  classical
  induction s using Finset.induction_on with
  | empty => simp
  | insert a s ha ih =>
    rw [sum_insert ha, sum_insert ha, EReal.left_distrib_of_nonneg_of_ne_top (EReal.coe_nonneg.2 hr) (EReal.coe_ne_top r), ih]

/-- The sum of real numbers, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A power of two of a real exponent. -/
theorem exp2_real (r : ℝ) : Ideal.exp2 (r : EReal) = (((2 : ℝ) ^ r : ℝ) : EReal) := Ideal.exp2_coe r

/-- The new maximum is a real number. -/
theorem max_real {σ : ℕ → ℝ} {v : ℕ → EReal} {n : ℕ} {M A : EReal} (h : St σ v n M A) {g : ℕ} (hg : 0 < g)
    {N : ℕ} (hN : g ≤ N) (x : Fin N → EReal) (hx : ∀ c : Fin N, c.val < g → x c = (σ (n + c.val) : EReal))
    (hx' : ∀ c : Fin N, g ≤ c.val → x c = ⊥) : ∃ μ : ℝ, max M (univ.sup x) = (μ : EReal) := by
  have h1 : max M (univ.sup x) ≠ ⊥ := by
    intro e
    have : x ⟨0, by omega⟩ ≤ ⊥ := e ▸ (Finset.le_sup (f := x) (mem_univ _)).trans (le_max_right _ _)
    rw [hx _ hg] at this
    exact (EReal.bot_lt_coe _).not_ge this
  have h2 : max M (univ.sup x) < ⊤ := by
    refine max_lt ?_ ((Finset.sup_lt_iff (by exact bot_lt_top)).2 fun c _ => ?_)
    · rcases h with ⟨_, h, _⟩ | ⟨_, μ, h, _⟩ <;> rw [h]
      · exact bot_lt_top
      · exact EReal.coe_lt_top _
    · by_cases hc : c.val < g
      · rw [hx c hc]; exact EReal.coe_lt_top _
      · rw [hx' c (by omega)]; exact bot_lt_top
  exact ⟨_, (EReal.coe_toReal h2.ne h1).symm⟩

/-- A block of `g` visible keys. -/
theorem St.step {σ : ℕ → ℝ} {v : ℕ → EReal} {n : ℕ} {M A : EReal} (h : St σ v n M A) {g : ℕ} (hg : 0 < g)
    {N : ℕ} (hN : g ≤ N) (x w : Fin N → EReal) (hx : ∀ c : Fin N, c.val < g → x c = (σ (n + c.val) : EReal))
    (hx' : ∀ c : Fin N, g ≤ c.val → x c = ⊥) (hw : ∀ c : Fin N, c.val < g → w c = v (n + c.val)) :
    St σ v (n + g) (max M (univ.sup x))
      (Ideal.exp2 (M - max M (univ.sup x)) * A
        + ∑ c, Ideal.exp2 (x c - max M (univ.sup x)) * w c) := by
  obtain ⟨μ', hμ⟩ := max_real h hg hN x hx hx'
  rw [hμ]
  refine Or.inr ⟨by omega, μ', rfl, ?_⟩
  rw [sum_range_add]
  congr 1
  · rcases h with ⟨h0, hM, hA⟩ | ⟨h0, μ, hM, hA⟩
    · rw [h0, hA, mul_zero]; simp
    · rw [hM, hA, ← EReal.coe_sub, exp2_real, coe_mul_sum _ _ _ (by positivity)]
      refine sum_congr rfl fun t _ => ?_
      rw [← mul_assoc, ← EReal.coe_mul, ← Real.rpow_add two_pos]
      have e : μ - μ' + (σ t - μ) = σ t - μ' := by ring
      rw [e]
  · have hf : ∀ c : Fin N, Ideal.exp2 (x c - (μ' : EReal)) * w c
        = (fun k : ℕ => if k < g then (((2 : ℝ) ^ (σ (n + k) - μ') : ℝ) : EReal) * v (n + k) else 0) c.val := by
      intro c
      by_cases hc : c.val < g
      · simp only [hc, if_true]
        rw [hx c hc, hw c hc, ← EReal.coe_sub, exp2_real]
      · simp only [hc, if_false]
        rw [hx' c (by omega), EReal.bot_sub]
        exact (congrArg (· * w c) Ideal.exp2_bot).trans (zero_mul _)
    rw [sum_congr rfl fun c _ => hf c, Fin.sum_univ_eq_sum_range (fun k : ℕ => if k < g then (((2 : ℝ) ^ (σ (n + k) - μ') : ℝ) : EReal) * v (n + k) else 0) N]
    rw [← sum_subset (range_subset_range.2 hN) fun k _ hk => if_neg (by simpa using hk)]
    exact sum_congr rfl fun k hk => if_pos (mem_range.1 hk)

/-- The softmax of the first `n` scores, applied to the values. -/
def soft (τ : ℕ → ℝ) (v : ℕ → EReal) (n : ℕ) : EReal :=
  ∑ t ∈ range n, ((Real.exp (τ t) / ∑ s ∈ range n, Real.exp (τ s) : ℝ) : EReal) * v t

/-- The quotient of the weighted values by the weights: the scores' softmax. -/
theorem St.quot {σ : ℕ → ℝ} {v u : ℕ → EReal} {n : ℕ} {M A L : EReal} (h : St σ v n M A) (h' : St σ u n M L) (hn : 0 < n)
    (hu : ∀ t, u t = 1) (τ : ℕ → ℝ) (hτ : ∀ t, t < n → σ t = τ t / Real.log 2) :
    Ideal.div A L = soft τ v n := by
  unfold soft
  rcases h with ⟨h0, _⟩ | ⟨_, μ, hM, hA⟩
  · omega
  rcases h' with ⟨h0, _⟩ | ⟨_, μ', hM', hL⟩
  · omega
  have e : μ = μ' := EReal.coe_injective (hM.symm.trans hM')
  subst e
  have hp : ∀ t, t < n → (2 : ℝ) ^ (σ t - μ) = Real.exp (τ t) * (2 : ℝ) ^ (-μ) := by
    intro t ht
    rw [sub_eq_add_neg, Real.rpow_add two_pos, hτ t ht, Real.rpow_def_of_pos two_pos, mul_div_cancel₀ _ (Real.log_pos one_lt_two).ne']
  have hL' : L = ((∑ t ∈ range n, (2 : ℝ) ^ (σ t - μ) : ℝ) : EReal) := by
    rw [hL, coe_sum]
    exact sum_congr rfl fun t _ => by rw [hu, mul_one]
  have hs : ∑ t ∈ range n, (2 : ℝ) ^ (σ t - μ) = (∑ t ∈ range n, Real.exp (τ t)) * (2 : ℝ) ^ (-μ) := by
    rw [sum_mul]; exact sum_congr rfl fun t ht => hp t (mem_range.1 ht)
  have hpos : 0 < ∑ t ∈ range n, Real.exp (τ t) := sum_pos (fun t _ => Real.exp_pos _) ⟨0, mem_range.2 hn⟩
  have h2 : (0 : ℝ) < (2 : ℝ) ^ (-μ) := by positivity
  rw [hL', hs]
  refine (Ideal.div_coe (mul_pos hpos h2).ne' A).trans ?_
  rw [hA, mul_comm, coe_mul_sum _ _ _ (by positivity)]
  refine sum_congr rfl fun t ht => ?_
  rw [← mul_assoc, ← EReal.coe_mul, hp t (mem_range.1 ht)]
  congr 2
  field_simp

end Cert.Softmax
-- ==== Proof.FlashStep.lean ====
/- One block of keys of the attention call, and what it does to a head's running maxima and running sums. -/
module

public import proofs.«01_k».proof.Proof.Gen.KernelIdeal.Value
public import proofs.«01_k».proof.Proof.FlashMath
public import Idealize.ShloMosaic.Lib.Pointwise

@[expose] public section

set_option maxRecDepth 16384

noncomputable section

open Idealize.ShloMosaic Idealize.ShloMosaic.TcCoe Idealize.SL.Sem

namespace Cert.KernelIdeal.Flash

open Cert.KernelIdeal Cert.KernelIdeal.Gen Cert.Softmax

/-- Every query row of a head has seen its first `n r` keys. -/
def Seen {R : ℕ} (σ : Fin R → ℕ → ℝ) (w : Fin 128 → ℕ → EReal) (n : Fin R → ℕ) (M : (⟨2, ![R, 1]⟩ : Shape).Idx → EReal)
    (A : (⟨2, ![R, 128]⟩ : Shape).Idx → EReal) : Prop :=
  ∀ (r : Fin R) (j : Fin 128), St (σ r) (w j) (n r) (M (ix2 r 0)) (A (ix2 r j))

/-- The scores of a block of 512 keys are the scores from the key `n` on. -/
def Keys (σ : Fin 1024 → ℕ → ℝ) (q : FVec Ideal S1024x128 .bf16) (kb : FVec Ideal S1x512x128 .bf16) (n : ℕ) : Prop :=
  ∀ (r : Fin 1024) (c : Fin 512), ∑ x, q (ix2 r x) * kb (ix3 0 c x) = (σ r (n + c.val) : EReal)

/-- The values of a block of 512 keys are the values from the key `n` on. -/
def Vals (w : Fin 128 → ℕ → EReal) (vb : FVec Ideal S1x512x128 .bf16) (n : ℕ) : Prop :=
  ∀ (j : Fin 128) (c : Fin 512), vb (ix3 0 c j) = w j (n + c.val)

/-- The constant the maxima start from is minus infinity. -/
theorem neg_infinity : Ideal.ofBits FTy.f32 0xFF800000#32 = (⊥ : EReal) := by
  simp [Ideal.ofBits, Ideal.ieee]

/-- The maximum that starts from minus infinity. -/
theorem fold_eq_sup {N : ℕ} (x : Fin N → EReal) :
    Finset.fold max (Ideal.ofBits FTy.f32 0xFF800000#32) x Finset.univ = Finset.univ.sup x := by
  rw [neg_infinity]; rfl

variable (q : FVec Ideal S1024x128 .bf16) (M : FVec Ideal S1024x1 .f32) (A : FVec Ideal S1024x128 .f32)
  (kb vb : FVec Ideal S1x512x128 .bf16)

/-- The score of one query and one key. -/
theorem score_apply (r : Fin 1024) (c : Fin 512) : k0_pay3 q kb (ix2 r c) = ∑ x, q (ix2 r x) * kb (ix3 0 c x) := by
  unfold k0_pay3
  pointwise

/-- The new maximum of a row. -/
theorem max_apply (r : Fin 1024) :
    k0_pay7 q M kb (ix2 r 0) = max (M (ix2 r 0)) (Finset.univ.sup fun c => k0_pay3 q kb (ix2 r c)) := by
  rw [← fold_eq_sup]
  unfold k0_pay7
  pointwise

/-- The weight of one query and one key. -/
theorem weight_apply (r : Fin 1024) (c : Fin 512) :
    k0_pay11 q M kb (ix2 r c) = Ideal.exp2 (k0_pay3 q kb (ix2 r c) - k0_pay7 q M kb (ix2 r 0)) := by
  unfold k0_pay11
  pointwise
  rfl

/-- The new sum of a row. -/
theorem acc_apply (M' : FVec Ideal S1024x1 .f32) (W : FVec Ideal S1024x512 .bf16) (r : Fin 1024) (j : Fin 128) :
    k0_pay14 M A M' W vb (ix2 r j) = Ideal.exp2 (M (ix2 r 0) - M' (ix2 r 0)) * A (ix2 r j) + ∑ c, W (ix2 r c) * vb (ix3 0 c j) := by
  unfold k0_pay14
  pointwise
  rfl

/-- A block of 512 keys that all the queries see. -/
theorem full {σ : Fin 1024 → ℕ → ℝ} {w : Fin 128 → ℕ → EReal} {n : ℕ} {q M A kb vb} (h : Seen σ w (fun _ => n) M A) (hk : Keys σ q kb n) (hv : Vals w vb n) :
    Seen σ w (fun _ => n + 512) (k0_pay7 q M kb) (k0_pay14 M A (k0_pay7 q M kb) (k0_pay11 q M kb) vb) := by
  intro r j
  have := (h r j).step (g := 512) (by omega) (N := 512) le_rfl (fun c => k0_pay3 q kb (ix2 r c)) (fun c => vb (ix3 0 c j))
    (fun c _ => (score_apply q kb r c).trans (hk r c)) (fun c hc => absurd c.isLt (by omega)) (fun c _ => hv j c)
  rw [acc_apply, max_apply]
  refine Eq.mp (congrArg (fun e => St (σ r) (w j) (n + 512) _ (_ + e)) (Finset.sum_congr rfl fun c _ => ?_)) this
  rw [weight_apply, max_apply]

/-- The words of two row or key numbers compare as the numbers. -/
theorem sle_words {a b : ℕ} (ha : a < 1024) (hb : b < 1024) :
    IntOp.cmpi CmpIPredicate.sle (BitVec.ofNat 32 a) (BitVec.ofNat 32 b) = if a ≤ b then 1#1 else 0#1 := by
  have h : (BitVec.ofNat 32 a).sle (BitVec.ofNat 32 b) = decide (a ≤ b) := by
    rw [BitVec.sle_eq_decide]
    rw [BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  simp only [IntOp.cmpi, h]
  by_cases hab : a ≤ b <;> simp [hab]

/-- The masked score of one query and one key of the diagonal block. -/
theorem mscore_apply (r : Fin 1024) (c : Fin 512) :
    k0_pay78 q k0_pay77 kb (ix2 r c) = if c.val ≤ r.val then k0_pay3 q kb (ix2 r c) else ⊥ := by
  have h : k0_pay78 q k0_pay77 kb (ix2 r c) = Scalar.select (IntOp.cmpi CmpIPredicate.sle (BitVec.ofNat 32 c.val) (BitVec.ofNat 32 r.val))
      (∑ x, q (ix2 r x) * kb (ix3 0 c x)) (Ideal.ofBits FTy.f32 0xFF800000#32) := by
    unfold k0_pay78 k0_pay77
    pointwise
  rw [h, sle_words (by omega) r.isLt, score_apply]
  by_cases hc : c.val ≤ r.val
  · simp [hc, Scalar.select]
  · simp [hc, Scalar.select, neg_infinity]

/-- The new maximum of a row after the diagonal block. -/
theorem mmax_apply (r : Fin 1024) :
    k0_pay82 q M k0_pay77 kb (ix2 r 0) = max (M (ix2 r 0)) (Finset.univ.sup fun c => k0_pay78 q k0_pay77 kb (ix2 r c)) := by
  rw [← fold_eq_sup]
  unfold k0_pay82
  pointwise

/-- The weight of one query and one key of the diagonal block. -/
theorem mweight_apply (r : Fin 1024) (c : Fin 512) :
    k0_pay86 q M k0_pay77 kb (ix2 r c) = Ideal.exp2 (k0_pay78 q k0_pay77 kb (ix2 r c) - k0_pay82 q M k0_pay77 kb (ix2 r 0)) := by
  unfold k0_pay86
  pointwise
  rfl

/-- The first 512 keys of the diagonal: a query sees those that are not after it. -/
theorem diag {σ : Fin 1024 → ℕ → ℝ} {w : Fin 128 → ℕ → EReal} {n : ℕ} {q M A kb vb} (h : Seen σ w (fun _ => n) M A) (hk : Keys σ q kb n) (hv : Vals w vb n) :
    Seen σ w (fun r => n + min 512 (r.val + 1)) (k0_pay82 q M k0_pay77 kb)
      (k0_pay88 M A (k0_pay82 q M k0_pay77 kb) (k0_pay86 q M k0_pay77 kb) vb) := by
  intro r j
  have := (h r j).step (g := min 512 (r.val + 1)) (by omega) (N := 512) (by omega) (fun c => k0_pay78 q k0_pay77 kb (ix2 r c)) (fun c => vb (ix3 0 c j))
    (fun c hc => (mscore_apply q kb r c).trans ((if_pos (by omega)).trans ((score_apply q kb r c).trans (hk r c))))
    (fun c hc => (mscore_apply q kb r c).trans (if_neg (by have := c.isLt; omega))) (fun c _ => hv j c)
  show St _ _ _ _ (k0_pay14 M A (k0_pay82 q M k0_pay77 kb) (k0_pay86 q M k0_pay77 kb) vb (ix2 r j))
  rw [acc_apply, mmax_apply]
  refine Eq.mp (congrArg (fun e => St (σ r) (w j) (n + min 512 (r.val + 1)) _ (_ + e)) (Finset.sum_congr rfl fun c _ => ?_)) this
  rw [mweight_apply, mmax_apply]

variable (m : FVec Ideal S512x1 .f32) (a : FVec Ideal S512x128 .f32)

/-- The lower half of a head's rows. -/
theorem low {σ : Fin 1024 → ℕ → ℝ} {w : Fin 128 → ℕ → EReal} {n : Fin 1024 → ℕ} {M : FVec Ideal S1024x1 .f32} {A : FVec Ideal S1024x128 .f32}
    (h : Seen σ w n M A) :
    Seen (R := 512) (fun r => σ ⟨512 + r.val, by omega⟩) w (fun r => n ⟨512 + r.val, by omega⟩)
      (show FVec Ideal S512x1 .f32 from k0_pay92 M) (show FVec Ideal S512x128 .f32 from k0_pay97 A) := by
  intro r j
  have h1 : k0_pay92 M (ix2 r 0) = M (ix2 ⟨512 + r.val, by omega⟩ 0) := by unfold k0_pay92; pointwise
  have h2 : k0_pay97 A (ix2 r j) = A (ix2 ⟨512 + r.val, by omega⟩ j) := by unfold k0_pay97; pointwise
  show St _ _ _ (k0_pay92 M (ix2 r 0)) (k0_pay97 A (ix2 r j))
  rw [h1, h2]
  exact h _ j

/-- The masked score of one query of the lower half and one key of the last block. -/
theorem tscore_apply (r c : Fin 512) :
    k0_pay101 q kb (ix2 r c) = if c.val ≤ r.val then ∑ x, q (ix2 ⟨512 + r.val, by omega⟩ x) * kb (ix3 0 c x) else ⊥ := by
  have h : k0_pay101 q kb (ix2 r c) = Scalar.select (IntOp.cmpi CmpIPredicate.sle (BitVec.ofNat 32 c.val) (BitVec.ofNat 32 r.val))
      (∑ x, q (ix2 ⟨512 + r.val, by omega⟩ x) * kb (ix3 0 c x)) (Ideal.ofBits FTy.f32 0xFF800000#32) := by
    unfold k0_pay101 k0_pay100
    pointwise
  rw [h, sle_words (by omega) (by omega)]
  by_cases hc : c.val ≤ r.val
  · simp [hc, Scalar.select]
  · simp [hc, Scalar.select, neg_infinity]

/-- The new maximum of a row of the lower half. -/
theorem tmax_apply (r : Fin 512) :
    k0_pay105 q m kb (ix2 r 0) = max (m (ix2 r 0)) (Finset.univ.sup fun c => k0_pay101 q kb (ix2 r c)) := by
  rw [← fold_eq_sup]
  unfold k0_pay105
  pointwise

/-- The new sum of a row of the lower half. -/
theorem tacc_apply (s : FVec Ideal S512x512 .f32) (m' : FVec Ideal S512x1 .f32) (r : Fin 512) (j : Fin 128) :
    k0_pay113 m a s m' vb (ix2 r j) = Ideal.exp2 (m (ix2 r 0) - m' (ix2 r 0)) * a (ix2 r j)
      + ∑ c, Ideal.exp2 (s (ix2 r c) - m' (ix2 r 0)) * vb (ix3 0 c j) := by
  unfold k0_pay113
  pointwise
  rfl

/-- The last 512 keys of the diagonal, for the lower half of the queries. -/
theorem tail {σ : Fin 1024 → ℕ → ℝ} {w : Fin 128 → ℕ → EReal} {n : ℕ} {q m a kb vb}
    (h : Seen (R := 512) (fun r => σ ⟨512 + r.val, by omega⟩) w (fun _ => n) m a) (hk : Keys σ q kb n) (hv : Vals w vb n) :
    Seen (R := 512) (fun r => σ ⟨512 + r.val, by omega⟩) w (fun r => n + (r.val + 1)) (k0_pay105 q m kb)
      (k0_pay113 m a (k0_pay101 q kb) (k0_pay105 q m kb) vb) := by
  intro r j
  have := (h r j).step (g := r.val + 1) (by omega) (N := 512) (by omega) (fun c => k0_pay101 q kb (ix2 r c)) (fun c => vb (ix3 0 c j))
    (fun c hc => (tscore_apply q kb r c).trans ((if_pos (by omega)).trans (hk _ c)))
    (fun c hc => (tscore_apply q kb r c).trans (if_neg (by omega))) (fun c _ => hv j c)
  rw [tacc_apply, tmax_apply]
  exact this

/-- Before the first key. -/
theorem start (σ : Fin 1024 → ℕ → ℝ) (w : Fin 128 → ℕ → EReal) : Seen σ w (fun _ => 0) (k0_pay61 (F := Ideal)) (k0_pay62 (F := Ideal)) := by
  intro r j
  refine Or.inl ⟨rfl, ?_, ?_⟩
  · show Ideal.ofBits FTy.f32 0xFF800000#32 = (⊥ : EReal)
    exact neg_infinity
  · exact Ideal.ofBits_zero_f32

end Cert.KernelIdeal.Flash
-- ==== Proof.FlashLoop.lean ====
/- The attention call's loop over the key blocks before the diagonal. -/
module

public import proofs.«01_k».proof.Proof.FlashStep
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Flash

open Cert.KernelIdeal Cert.KernelIdeal.Gen Cert.Softmax

/-- A rectangle of the key or value block, entry by entry. -/
theorem rd {κ : Kind} {sp : Space} {m : Memref sig κ sp S1x4096x512 .bf16} (hm : m.IsWhole) (X : FVec Ideal S1x4096x512 .bf16) {off : Fin 3 → ℕ}
    (inb : ∀ a, off a + S1x512x128.size a ≤ S1x4096x512.size a) {n l : ℕ} (h : off = ![0, n, l]) (hn : n + 512 ≤ 4096) (hl : l + 128 ≤ 512)
    (c : Fin 512) (x : Fin 128) :
    (show FVec Ideal S1x512x128 .bf16 from
      View.readAt (Elt Ideal) m.view (Rect.unit (s := S1x4096x512) off S1x512x128.size inb).toLoadRect (hm.unread (Val := Elt Ideal) X)) (ix3 0 c x)
      = X (ix3 0 ⟨n + c.val, by omega⟩ ⟨l + x.val, by omega⟩) := by
  subst h
  have h := congrArg (fun Y => Y ((Rect.unit (s := S1x4096x512) ![0, n, l] S1x512x128.size inb).emb (ix3 0 c x))) (hm.read_unread (Val := Elt Ideal) X)
  refine Eq.trans (show _ = _ from h) (congrArg X (funext fun a => Fin.ext ?_))
  match a with
  | 0 => rfl
  | 1 => show n + 1 * c.val = n + c.val; omega
  | 2 => show l + 1 * x.val = l + x.val; omega

/-- The head's scores at all the keys of the block. -/
def Scores (σ : Fin 1024 → ℕ → ℝ) (q : FVec Ideal S1024x128 .bf16) (K : FVec Ideal S1x4096x512 .bf16) (h : Fin 4) : Prop :=
  ∀ (r : Fin 1024) (t : Fin 4096), ∑ x : Fin 128, q (ix2 r x) * K (ix3 0 t ⟨128 * h.val + x.val, by omega⟩) = (σ r t.val : EReal)

/-- The head's values at all the keys of the block. -/
def Values (w : Fin 128 → ℕ → EReal) (V : FVec Ideal S1x4096x512 .bf16) (h : Fin 4) : Prop :=
  ∀ (j : Fin 128) (t : Fin 4096), V (ix3 0 t ⟨128 * h.val + j.val, by omega⟩) = w j t.val

/-- The scores of a loaded block of keys. -/
theorem keys {κ : Kind} {sp : Space} {m : Memref sig κ sp S1x4096x512 .bf16} (hm : m.IsWhole) {σ : Fin 1024 → ℕ → ℝ} {q : FVec Ideal S1024x128 .bf16}
    {K : FVec Ideal S1x4096x512 .bf16} {h : Fin 4} (hK : Scores σ q K h) {off : Fin 3 → ℕ}
    (inb : ∀ a, off a + S1x512x128.size a ≤ S1x4096x512.size a) {n : ℕ} (e : off = ![0, n, 128 * h.val]) (hn : n + 512 ≤ 4096) :
    Keys σ q (View.readAt (Elt Ideal) m.view (Rect.unit (s := S1x4096x512) off S1x512x128.size inb).toLoadRect (hm.unread (Val := Elt Ideal) K)) n := by
  intro r c
  refine Eq.trans (Finset.sum_congr rfl fun x _ => congrArg (q (ix2 r x) * ·) (rd hm K inb e hn (by omega) c x)) ?_
  exact hK r ⟨n + c.val, by omega⟩

/-- The values of a loaded block of keys. -/
theorem vals {κ : Kind} {sp : Space} {m : Memref sig κ sp S1x4096x512 .bf16} (hm : m.IsWhole) {w : Fin 128 → ℕ → EReal}
    {V : FVec Ideal S1x4096x512 .bf16} {h : Fin 4} (hV : Values w V h) {off : Fin 3 → ℕ}
    (inb : ∀ a, off a + S1x512x128.size a ≤ S1x4096x512.size a) {n : ℕ} (e : off = ![0, n, 128 * h.val]) (hn : n + 512 ≤ 4096) :
    Vals w (View.readAt (Elt Ideal) m.view (Rect.unit (s := S1x4096x512) off S1x512x128.size inb).toLoadRect (hm.unread (Val := Elt Ideal) V)) n := by
  intro j c
  exact (rd hm V inb e hn (by omega) c j).trans (hV j ⟨n + c.val, by omega⟩)

/-- What the loop carries: the maxima and the sums of the four heads. -/
abbrev Carry := FVec Ideal S1024x1 .f32 × FVec Ideal S1024x128 .f32 × FVec Ideal S1024x1 .f32 × FVec Ideal S1024x128 .f32
  × FVec Ideal S1024x1 .f32 × FVec Ideal S1024x128 .f32 × FVec Ideal S1024x1 .f32 × FVec Ideal S1024x128 .f32

/-- All the rows of the four heads have seen their first `n` keys. -/
def Inv (σ : Fin 4 → Fin 1024 → ℕ → ℝ) (w : Fin 4 → Fin 128 → ℕ → EReal) (n : ℕ) (s : Carry) : Prop :=
  Seen (σ 0) (w 0) (fun _ => n) s.1 s.2.1 ∧ Seen (σ 1) (w 1) (fun _ => n) s.2.2.1 s.2.2.2.1
    ∧ Seen (σ 2) (w 2) (fun _ => n) s.2.2.2.2.1 s.2.2.2.2.2.1 ∧ Seen (σ 3) (w 3) (fun _ => n) s.2.2.2.2.2.2.1 s.2.2.2.2.2.2.2

section Loop

variable (c : Dev nD) (i : grid0.Coords) (arg3 : Memref sig .tc .vmem S1x1024x512 .bf16) (harg3 : arg3.IsWhole)
  (arg4 : Memref sig .tc .vmem S1x4096x512 .bf16) (harg4 : arg4.IsWhole) (arg5 : Memref sig .tc .vmem S1x4096x512 .bf16) (harg5 : arg5.IsWhole)
  (arg6 : Memref sig .tc .vmem S1x1024x256 .bf16) (harg6 : arg6.IsWhole) (v0 v2 v4 v6 : Vec Ideal S1x1024x128 .bf16)
  (K V : FVec Ideal S1x4096x512 .bf16) {σ : Fin 4 → Fin 1024 → ℕ → ℝ} {w : Fin 4 → Fin 128 → ℕ → EReal}

/-- One trip: two blocks of 512 keys. -/
theorem trip (hK0 : Scores (σ 0) (k0_pay57 v0) K 0) (hK1 : Scores (σ 1) (k0_pay58 v2) K 1) (hK2 : Scores (σ 2) (k0_pay59 v4) K 2)
    (hK3 : Scores (σ 3) (k0_pay60 v6) K 3) (hV : ∀ h, Values (w h) V h) (k : Fin (k0_t1_loop i).trips) (s : Carry) (hs : Inv σ w (1024 * k.val) s) :
    Inv σ w (1024 * k.val + 512 + 512) (tripR_k0_t1 (F := Ideal) Variants.none c none i arg3 harg3 arg4 harg4 arg5 harg5 arg6 harg6 v0 v2 v4 v6
      (harg4.unread (Val := Elt Ideal) K) (harg5.unread (Val := Elt Ideal) V) k s) := by
  have hk : k.val < 3 := lt_of_lt_of_le k.isLt (k0_t1_abs i).2.1
  unfold tripR_k0_t1 trip_k0_t1
  refine ⟨?_, ?_, ?_, ?_⟩
  · exact full (full hs.1 (keys harg4 hK0 _ (k0_off1_eq i k 0) (by simp; omega)) (vals harg5 (hV 0) _ (k0_off1_eq i k 0) (by simp; omega)))
      (keys harg4 hK0 _ (k0_off1_eq i k 1) (by simp; omega)) (vals harg5 (hV 0) _ (k0_off1_eq i k 1) (by simp; omega))
  · exact full (full hs.2.1 (keys harg4 hK1 _ (k0_off2_eq i k 0) (by simp; omega)) (vals harg5 (hV 1) _ (k0_off2_eq i k 0) (by simp; omega)))
      (keys harg4 hK1 _ (k0_off2_eq i k 1) (by simp; omega)) (vals harg5 (hV 1) _ (k0_off2_eq i k 1) (by simp; omega))
  · exact full (full hs.2.2.1 (keys harg4 hK2 _ (k0_off3_eq i k 0) (by simp; omega)) (vals harg5 (hV 2) _ (k0_off3_eq i k 0) (by simp; omega)))
      (keys harg4 hK2 _ (k0_off3_eq i k 1) (by simp; omega)) (vals harg5 (hV 2) _ (k0_off3_eq i k 1) (by simp; omega))
  · exact full (full hs.2.2.2 (keys harg4 hK3 _ (k0_off4_eq i k 0) (by simp; omega)) (vals harg5 (hV 3) _ (k0_off4_eq i k 0) (by simp; omega)))
      (keys harg4 hK3 _ (k0_off4_eq i k 1) (by simp; omega)) (vals harg5 (hV 3) _ (k0_off4_eq i k 1) (by simp; omega))

/-- The loop, up to any of its trips. -/
theorem loop (hK0 : Scores (σ 0) (k0_pay57 v0) K 0) (hK1 : Scores (σ 1) (k0_pay58 v2) K 1) (hK2 : Scores (σ 2) (k0_pay59 v4) K 2)
    (hK3 : Scores (σ 3) (k0_pay60 v6) K 3) (hV : ∀ h, Values (w h) V h) (k : ℕ) (hk : k ≤ (k0_t1_loop i).trips) :
    Inv σ w (1024 * k) (st_k0_t1 (F := Ideal) Variants.none c none i arg3 harg3 arg4 harg4 arg5 harg5 arg6 harg6 v0 v2 v4 v6
      (harg4.unread (Val := Elt Ideal) K) (harg5.unread (Val := Elt Ideal) V)
      (k0_pay61, k0_pay62, k0_pay63, k0_pay64, k0_pay65, k0_pay66, k0_pay67, k0_pay68) k) := by
  induction k with
  | zero =>
    rw [st_k0_t1_zero]
    exact ⟨start _ _, start _ _, start _ _, start _ _⟩
  | succ k ih =>
    have h := st_k0_t1_succ (F := Ideal) Variants.none c none i arg3 harg3 arg4 harg4 arg5 harg5 arg6 harg6 v0 v2 v4 v6
      (harg4.unread (Val := Elt Ideal) K) (harg5.unread (Val := Elt Ideal) V)
      (k0_pay61, k0_pay62, k0_pay63, k0_pay64, k0_pay65, k0_pay66, k0_pay67, k0_pay68) ⟨k, hk⟩
    rw [show st_k0_t1 (F := Ideal) Variants.none c none i arg3 harg3 arg4 harg4 arg5 harg5 arg6 harg6 v0 v2 v4 v6
      (harg4.unread (Val := Elt Ideal) K) (harg5.unread (Val := Elt Ideal) V)
      (k0_pay61, k0_pay62, k0_pay63, k0_pay64, k0_pay65, k0_pay66, k0_pay67, k0_pay68) (k + 1) = _ from h]
    exact trip c i arg3 harg3 arg4 harg4 arg5 harg5 arg6 harg6 v0 v2 v4 v6 K V hK0 hK1 hK2 hK3 hV ⟨k, hk⟩ _ (ih (by omega))

end Loop

/-- The loop runs over the blocks of 1024 keys before the query block. -/
theorem trips_eq : ∀ i : grid0.Coords, Scf.trips (k0_t1_loop i).lb (k0_t1_loop i).ub (k0_t1_loop i).st = (i 2).val := by decide +kernel

/-- The second loop has no trip. -/
theorem trips2_eq : ∀ i : grid0.Coords, (k0_t2_loop i).trips = 0 := fun i => Nat.le_zero.1 (k0_t2_abs i).2.1

end Cert.KernelIdeal.Flash
-- ==== Proof.FlashBody.lean ====
/- The attention call's diagonal blocks and its output tiles. -/
module

public import proofs.«01_k».proof.Proof.FlashLoop

@[expose] public section

set_option maxRecDepth 16384

noncomputable section

open Idealize.ShloMosaic Idealize.ShloMosaic.TcCoe Idealize.SL.Sem

namespace Cert.KernelIdeal.Flash

open Cert.KernelIdeal Cert.KernelIdeal.Gen Cert.Softmax

section Body

variable (c : Dev nD) (i : grid0.Coords) (arg3 : Memref sig .tc .vmem S1x1024x512 .bf16) (harg3 : arg3.IsWhole)
  (arg4 : Memref sig .tc .vmem S1x4096x512 .bf16) (harg4 : arg4.IsWhole) (arg5 : Memref sig .tc .vmem S1x4096x512 .bf16) (harg5 : arg5.IsWhole)
  (arg6 : Memref sig .tc .vmem S1x1024x256 .bf16) (harg6 : arg6.IsWhole) (x0 : FVec Ideal S1x1024x512 .bf16)
  (x1 x2 : FVec Ideal S1x4096x512 .bf16) {σ : Fin 4 → Fin 1024 → ℕ → ℝ} {w : Fin 4 → Fin 128 → ℕ → EReal}
  (hK0 : Scores (σ 0) (kernelRun0_A.sl.r (F := Ideal) c arg3 harg3 x0) x1 0) (hK1 : Scores (σ 1) (kernelRun0_A.sl.r_1 (F := Ideal) c arg3 harg3 x0) x1 1)
  (hK2 : Scores (σ 2) (kernelRun0_A.sl.r_2 (F := Ideal) c arg3 harg3 x0) x1 2) (hK3 : Scores (σ 3) (kernelRun0_A.sl.r_3 (F := Ideal) c arg3 harg3 x0) x1 3)
  (hV : ∀ h, Values (w h) x2 h)

include hK0 hK1 hK2 hK3 hV

/-- What reaches the diagonal: all the keys before the query block have been seen. -/
theorem entry : Inv σ w (1024 * (i 2).val) (kernelRun0_A.sl.r_4 (F := Ideal) c i arg3 harg3 arg4 harg4 arg5 harg5 arg6 harg6 x0 x1 x2, kernelRun0_A.sl.r_5 (F := Ideal) c i arg3 harg3 arg4 harg4 arg5 harg5 arg6 harg6 x0 x1 x2, kernelRun0_A.sl.r_6 (F := Ideal) c i arg3 harg3 arg4 harg4 arg5 harg5 arg6 harg6 x0 x1 x2, kernelRun0_A.sl.r_7 (F := Ideal) c i arg3 harg3 arg4 harg4 arg5 harg5 arg6 harg6 x0 x1 x2, kernelRun0_A.sl.r_8 (F := Ideal) c i arg3 harg3 arg4 harg4 arg5 harg5 arg6 harg6 x0 x1 x2, kernelRun0_A.sl.r_9 (F := Ideal) c i arg3 harg3 arg4 harg4 arg5 harg5 arg6 harg6 x0 x1 x2, kernelRun0_A.sl.r_10 (F := Ideal) c i arg3 harg3 arg4 harg4 arg5 harg5 arg6 harg6 x0 x1 x2, kernelRun0_A.sl.r_11 (F := Ideal) c i arg3 harg3 arg4 harg4 arg5 harg5 arg6 harg6 x0 x1 x2) := by
  have h := loop c i arg3 harg3 arg4 harg4 arg5 harg5 arg6 harg6 _ _ _ _ x1 x2 hK0 hK1 hK2 hK3 hV _ (le_refl (k0_t1_loop i).trips)
  have e1 : (k0_t1_loop i).trips = (i 2).val := trips_eq i
  have e2 : Scf.trips (k0_t2_loop i).lb (k0_t2_loop i).ub (k0_t2_loop i).st = 0 := trips2_eq i
  unfold kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11
  rw [e2]
  simp only [st_k0_t2_zero]
  rw [e1] at h
  rw [show Scf.trips (k0_t1_loop i).lb (k0_t1_loop i).ub (k0_t1_loop i).st = (i 2).val from e1]
  exact h

/-- The first head after the upper diagonal block. -/
theorem up0 : Seen (σ 0) (w 0) (fun r => 1024 * (i 2).val + min 512 (r.val + 1)) (kernelRun0_A.sl.r_15 (F := Ideal) c i arg3 harg3 arg4 harg4 arg5 harg5 arg6 harg6 x0 x1 x2) (kernelRun0_A.sl.r_21 (F := Ideal) c i arg3 harg3 arg4 harg4 arg5 harg5 arg6 harg6 x0 x1 x2) := by
  have h := entry c i arg3 harg3 arg4 harg4 arg5 harg5 arg6 harg6 x0 x1 x2 hK0 hK1 hK2 hK3 hV
  have hi : (i 2).val < 4 := (i 2).isLt
  exact diag h.1 (keys harg4 hK0 _ (k0_off9_eq i) (by omega)) (vals harg5 (hV 0) _ (k0_off9_eq i) (by omega))

/-- The second head after the upper diagonal block. -/
theorem up1 : Seen (σ 1) (w 1) (fun r => 1024 * (i 2).val + min 512 (r.val + 1)) (kernelRun0_A.sl.r_16 (F := Ideal) c i arg3 harg3 arg4 harg4 arg5 harg5 arg6 harg6 x0 x1 x2) (kernelRun0_A.sl.r_22 (F := Ideal) c i arg3 harg3 arg4 harg4 arg5 harg5 arg6 harg6 x0 x1 x2) := by
  have h := entry c i arg3 harg3 arg4 harg4 arg5 harg5 arg6 harg6 x0 x1 x2 hK0 hK1 hK2 hK3 hV
  have hi : (i 2).val < 4 := (i 2).isLt
  exact diag h.2.1 (keys harg4 hK1 _ (k0_off10_eq i) (by omega)) (vals harg5 (hV 1) _ (k0_off10_eq i) (by omega))

/-- The third head after the upper diagonal block. -/
theorem up2 : Seen (σ 2) (w 2) (fun r => 1024 * (i 2).val + min 512 (r.val + 1)) (kernelRun0_A.sl.r_17 (F := Ideal) c i arg3 harg3 arg4 harg4 arg5 harg5 arg6 harg6 x0 x1 x2) (kernelRun0_A.sl.r_23 (F := Ideal) c i arg3 harg3 arg4 harg4 arg5 harg5 arg6 harg6 x0 x1 x2) := by
  have h := entry c i arg3 harg3 arg4 harg4 arg5 harg5 arg6 harg6 x0 x1 x2 hK0 hK1 hK2 hK3 hV
  have hi : (i 2).val < 4 := (i 2).isLt
  exact diag h.2.2.1 (keys harg4 hK2 _ (k0_off11_eq i) (by omega)) (vals harg5 (hV 2) _ (k0_off11_eq i) (by omega))

/-- The fourth head after the upper diagonal block. -/
theorem up3 : Seen (σ 3) (w 3) (fun r => 1024 * (i 2).val + min 512 (r.val + 1)) (kernelRun0_A.sl.r_18 (F := Ideal) c i arg3 harg3 arg4 harg4 arg5 harg5 arg6 harg6 x0 x1 x2) (kernelRun0_A.sl.r_24 (F := Ideal) c i arg3 harg3 arg4 harg4 arg5 harg5 arg6 harg6 x0 x1 x2) := by
  have h := entry c i arg3 harg3 arg4 harg4 arg5 harg5 arg6 harg6 x0 x1 x2 hK0 hK1 hK2 hK3 hV
  have hi : (i 2).val < 4 := (i 2).isLt
  exact diag h.2.2.2 (keys harg4 hK3 _ (k0_off12_eq i) (by omega)) (vals harg5 (hV 3) _ (k0_off12_eq i) (by omega))

/-- The first head's lower rows after the lower diagonal block. -/
theorem lo0 : Seen (R := 512) (fun r => σ 0 ⟨512 + r.val, by omega⟩) (w 0) (fun r => 1024 * (i 2).val + 512 + (r.val + 1))
    (kernelRun0_A.sl.r_37 (F := Ideal) c i arg3 harg3 arg4 harg4 arg5 harg5 arg6 harg6 x0 x1 x2)
    (kernelRun0_A.sl.r_44 (F := Ideal) c i arg3 harg3 arg4 harg4 arg5 harg5 arg6 harg6 x0 x1 x2) := by
  have h := up0 c i arg3 harg3 arg4 harg4 arg5 harg5 arg6 harg6 x0 x1 x2 hK0 hK1 hK2 hK3 hV
  have hi : (i 2).val < 4 := (i 2).isLt
  have hl := low h
  simp only [show ∀ r : Fin 512, min 512 (512 + r.val + 1) = 512 from fun r => by omega] at hl
  exact tail hl (keys harg4 hK0 _ (k0_off13_eq i) (by omega)) (vals harg5 (hV 0) _ (k0_off13_eq i) (by omega))

/-- The second head's lower rows after the lower diagonal block. -/
theorem lo1 : Seen (R := 512) (fun r => σ 1 ⟨512 + r.val, by omega⟩) (w 1) (fun r => 1024 * (i 2).val + 512 + (r.val + 1))
    (k0_pay107 (kernelRun0_A.sl.r_27 (F := Ideal) c i arg3 harg3 arg4 harg4 arg5 harg5 arg6 harg6 x0 x1 x2) (kernelRun0_A.sl.r_38 (F := Ideal) c i arg3 harg3 arg4 harg4 x0 x1))
    (kernelRun0_A.sl.r_46 (F := Ideal) c i arg3 harg3 arg4 harg4 arg5 harg5 arg6 harg6 x0 x1 x2) := by
  have h := up1 c i arg3 harg3 arg4 harg4 arg5 harg5 arg6 harg6 x0 x1 x2 hK0 hK1 hK2 hK3 hV
  have hi : (i 2).val < 4 := (i 2).isLt
  have hl := low h
  simp only [show ∀ r : Fin 512, min 512 (512 + r.val + 1) = 512 from fun r => by omega] at hl
  have t := tail hl (keys harg4 hK1 (k0_off14_inb i) (k0_off14_eq i) (by omega)) (vals harg5 (hV 1) (k0_off14_inb i) (k0_off14_eq i) (by omega))
  unfold kernelRun0_A.sl.r_46 kernelRun0_A.sl.r_45 kernelRun0_A.sl.r_41 kernelRun0_A.sl.r_38 kernelRun0_A.sl.r_34 kernelRun0_A.sl.r_28 kernelRun0_A.sl.r_27
    k0_pay115 k0_pay114 k0_pay110 k0_pay107 k0_pay106
  unfold k0_pay113 k0_pay105 at t
  exact t

/-- The third head's lower rows after the lower diagonal block. -/
theorem lo2 : Seen (R := 512) (fun r => σ 2 ⟨512 + r.val, by omega⟩) (w 2) (fun r => 1024 * (i 2).val + 512 + (r.val + 1))
    (kernelRun0_A.sl.r_39 (F := Ideal) c i arg3 harg3 arg4 harg4 arg5 harg5 arg6 harg6 x0 x1 x2)
    (kernelRun0_A.sl.r_47 (F := Ideal) c i arg3 harg3 arg4 harg4 arg5 harg5 arg6 harg6 x0 x1 x2) := by
  have h := up2 c i arg3 harg3 arg4 harg4 arg5 harg5 arg6 harg6 x0 x1 x2 hK0 hK1 hK2 hK3 hV
  have hi : (i 2).val < 4 := (i 2).isLt
  have hl := low h
  simp only [show ∀ r : Fin 512, min 512 (512 + r.val + 1) = 512 from fun r => by omega] at hl
  exact tail hl (keys harg4 hK2 _ (k0_off15_eq i) (by omega)) (vals harg5 (hV 2) _ (k0_off15_eq i) (by omega))

/-- The fourth head's lower rows after the lower diagonal block. -/
theorem lo3 : Seen (R := 512) (fun r => σ 3 ⟨512 + r.val, by omega⟩) (w 3) (fun r => 1024 * (i 2).val + 512 + (r.val + 1))
    (kernelRun0_A.sl.r_40 (F := Ideal) c i arg3 harg3 arg4 harg4 arg5 harg5 arg6 harg6 x0 x1 x2)
    (kernelRun0_A.sl.r_48 (F := Ideal) c i arg3 harg3 arg4 harg4 arg5 harg5 arg6 harg6 x0 x1 x2) := by
  have h := up3 c i arg3 harg3 arg4 harg4 arg5 harg5 arg6 harg6 x0 x1 x2 hK0 hK1 hK2 hK3 hV
  have hi : (i 2).val < 4 := (i 2).isLt
  have hl := low h
  simp only [show ∀ r : Fin 512, min 512 (512 + r.val + 1) = 512 from fun r => by omega] at hl
  exact tail hl (keys harg4 hK3 _ (k0_off16_eq i) (by omega)) (vals harg5 (hV 3) _ (k0_off16_eq i) (by omega))

end Body

end Cert.KernelIdeal.Flash
-- ==== Proof.FlashTiles.lean ====
/- The attention call's output tiles. -/
module

public import proofs.«01_k».proof.Proof.FlashBody

@[expose] public section

set_option maxRecDepth 16384

noncomputable section

open Idealize.ShloMosaic Idealize.ShloMosaic.TcCoe Idealize.SL.Sem

namespace Cert.KernelIdeal.Flash

open Cert.KernelIdeal Cert.KernelIdeal.Gen Cert.Softmax

/-- The scores in base two, from those in base `e`. -/
abbrev base2 (τ : ℕ → ℝ) : ℕ → ℝ := fun t => τ t / Real.log 2

/-- The first 64 lanes of a tile. -/
theorem lanes (j : Fin 128) {α : Type} (x y : α) :
    Scalar.select (IntOp.cmpi CmpIPredicate.slt (BitVec.ofNat 32 j.val) 64#32) x y = if j.val < 64 then x else y := by
  have h : (BitVec.ofNat 32 j.val).slt 64#32 = decide (j.val < 64) := by
    rw [BitVec.slt_eq_decide]
    rw [BitVec.toInt_eq_toNat_of_lt (by simp; omega), BitVec.toInt_eq_toNat_of_lt (by simp)]
    simp only [BitVec.toNat_ofNat]
    rw [Nat.mod_eq_of_lt (by omega)]
    simp
  simp only [IntOp.cmpi, h, Scalar.select]
  by_cases hj : j.val < 64 <;> simp [hj]

/-- A tile of the upper rows, entry by entry. -/
theorem top_apply (A B : FVec Ideal S1024x128 .f32) (r : Fin 512) (j : Fin 128) :
    k0_pay119 A B (ix3 0 r j) = if j.val < 64 then Ideal.div (A (ix2 ⟨r.val, by omega⟩ j)) (A (ix2 ⟨r.val, by omega⟩ 64))
      else Ideal.div (B (ix2 ⟨r.val, by omega⟩ ⟨(j.val + 128 - 64) % 128, by omega⟩)) (B (ix2 ⟨r.val, by omega⟩ 64)) := by
  rw [← lanes]
  unfold k0_pay119 k0_pay118
  pointwise

/-- A tile of the lower rows, entry by entry. -/
theorem bot_apply (A B : FVec Ideal S512x128 .f32) (r : Fin 512) (j : Fin 128) :
    k0_pay2 A B k0_pay118 (ix3 0 r j) = if j.val < 64 then Ideal.div (A (ix2 r j)) (A (ix2 r 64))
      else Ideal.div (B (ix2 r ⟨(j.val + 128 - 64) % 128, by omega⟩)) (B (ix2 r 64)) := by
  rw [← lanes]
  unfold k0_pay2 k0_pay118
  pointwise

/-- The block's value at a row and a lane. -/
def val (τ : Fin 4 → Fin 1024 → ℕ → ℝ) (w : Fin 4 → Fin 128 → ℕ → EReal) (n : ℕ) (r : Fin 1024) (l : Fin 256) : EReal :=
  soft (τ ⟨l.val / 64, by omega⟩ r) (w ⟨l.val / 64, by omega⟩ ⟨l.val % 64, by omega⟩) (n + r.val + 1)

variable {τ : Fin 4 → Fin 1024 → ℕ → ℝ} {w : Fin 4 → Fin 128 → ℕ → EReal} (hu : ∀ h t, w h 64 t = 1)

/-- The block's value at a head's lane. -/
theorem val_at (n : ℕ) (r r' : Fin 1024) (l : Fin 256) (h : Fin 4) (j : Fin 128) (hr : r.val = r'.val) (hl : l.val = 64 * h.val + j.val) (hj : j.val < 64) :
    val τ w n r l = soft (τ h r') (w h j) (n + r'.val + 1) := by
  have e : r = r' := Fin.ext hr
  subst e
  unfold val
  have e1 : (⟨l.val / 64, by omega⟩ : Fin 4) = h := Fin.ext (by show l.val / 64 = h.val; omega)
  have e2 : (⟨l.val % 64, by omega⟩ : Fin 128) = j := Fin.ext (by show l.val % 64 = j.val; omega)
  rw [e1, e2]

include hu

/-- The quotient of a head's two sums in an upper row. -/
theorem quot_up {h : Fin 4} {n : ℕ} {M : FVec Ideal S1024x1 .f32} {A : FVec Ideal S1024x128 .f32}
    (S : Seen (fun r => base2 (τ h r)) (w h) (fun r => n + min 512 (r.val + 1)) M A) (r : Fin 512) (j : Fin 128) :
    Ideal.div (A (ix2 ⟨r.val, by omega⟩ j)) (A (ix2 ⟨r.val, by omega⟩ 64)) = soft (τ h ⟨r.val, by omega⟩) (w h j) (n + r.val + 1) := by
  have q := (S ⟨r.val, by omega⟩ j).quot (S ⟨r.val, by omega⟩ 64) (by show 0 < n + min 512 (r.val + 1); omega) (hu h) (τ h ⟨r.val, by omega⟩) (fun _ _ => rfl)
  rw [q]
  congr 1
  show n + min 512 (r.val + 1) = n + r.val + 1
  omega

/-- The quotient of a head's two sums in a lower row. -/
theorem quot_lo {h : Fin 4} {n : ℕ} {M : FVec Ideal S512x1 .f32} {A : FVec Ideal S512x128 .f32}
    (S : Seen (R := 512) (fun r => base2 (τ h ⟨512 + r.val, by omega⟩)) (w h) (fun r => n + 512 + (r.val + 1)) M A) (r : Fin 512) (j : Fin 128) :
    Ideal.div (A (ix2 r j)) (A (ix2 r 64)) = soft (τ h ⟨512 + r.val, by omega⟩) (w h j) (n + (512 + r.val) + 1) := by
  have q := (S r j).quot (S r 64) (by show 0 < n + 512 + (r.val + 1); omega) (hu h) (τ h ⟨512 + r.val, by omega⟩) (fun _ _ => rfl)
  rw [q]
  congr 1
  show n + 512 + (r.val + 1) = n + (512 + r.val) + 1
  omega

/-- The tile of two heads in the upper rows. -/
theorem pair_up {h h' : Fin 4} {n : ℕ} {M M' : FVec Ideal S1024x1 .f32} {A A' : FVec Ideal S1024x128 .f32}
    (S : Seen (fun r => base2 (τ h r)) (w h) (fun r => n + min 512 (r.val + 1)) M A)
    (S' : Seen (fun r => base2 (τ h' r)) (w h') (fun r => n + min 512 (r.val + 1)) M' A') (e : h'.val = h.val + 1)
    (r : Fin 512) (j : Fin 128) (a : Fin 1024) (l : Fin 256) (ha : a.val = r.val) (hl : l.val = 64 * h.val + j.val) :
    k0_pay119 A A' (ix3 0 r j) = val τ w n a l := by
  rw [top_apply]
  by_cases hj : j.val < 64
  · rw [if_pos hj, quot_up hu S, val_at n a ⟨r.val, by omega⟩ l h j ha hl hj]
  · rw [if_neg hj, quot_up hu S', val_at n a ⟨r.val, by omega⟩ l h' ⟨(j.val + 128 - 64) % 128, by omega⟩ ha (by show l.val = 64 * h'.val + (j.val + 128 - 64) % 128; omega) (by show (j.val + 128 - 64) % 128 < 64; omega)]

/-- The tile of two heads in the lower rows. -/
theorem pair_lo {h h' : Fin 4} {n : ℕ} {M M' : FVec Ideal S512x1 .f32} {A A' : FVec Ideal S512x128 .f32}
    (S : Seen (R := 512) (fun r => base2 (τ h ⟨512 + r.val, by omega⟩)) (w h) (fun r => n + 512 + (r.val + 1)) M A)
    (S' : Seen (R := 512) (fun r => base2 (τ h' ⟨512 + r.val, by omega⟩)) (w h') (fun r => n + 512 + (r.val + 1)) M' A') (e : h'.val = h.val + 1)
    (r : Fin 512) (j : Fin 128) (a : Fin 1024) (l : Fin 256) (ha : a.val = 512 + r.val) (hl : l.val = 64 * h.val + j.val) :
    k0_pay2 A A' k0_pay118 (ix3 0 r j) = val τ w n a l := by
  rw [bot_apply]
  by_cases hj : j.val < 64
  · rw [if_pos hj, quot_lo hu S, val_at n a ⟨512 + r.val, by omega⟩ l h j ha hl hj]
  · rw [if_neg hj, quot_lo hu S', val_at n a ⟨512 + r.val, by omega⟩ l h' ⟨(j.val + 128 - 64) % 128, by omega⟩ ha (by show l.val = 64 * h'.val + (j.val + 128 - 64) % 128; omega) (by show (j.val + 128 - 64) % 128 < 64; omega)]

end Cert.KernelIdeal.Flash
-- ==== Proof.FlashBlock.lean ====
/- The attention call's output block. -/
module

public import proofs.«01_k».proof.Proof.FlashTiles

@[expose] public section

set_option maxRecDepth 16384

noncomputable section

open Idealize.ShloMosaic Idealize.ShloMosaic.TcCoe Idealize.SL.Sem

namespace Cert.KernelIdeal.Flash

open Cert.KernelIdeal Cert.KernelIdeal.Gen Cert.Softmax

variable {τ : Fin 4 → Fin 1024 → ℕ → ℝ} {w : Fin 4 → Fin 128 → ℕ → EReal} (hu : ∀ h t, w h 64 t = 1)

variable (c : Dev nD) (i : grid0.Coords) (arg3 : Memref sig .tc .vmem S1x1024x512 .bf16) (harg3 : arg3.IsWhole)
  (arg4 : Memref sig .tc .vmem S1x4096x512 .bf16) (harg4 : arg4.IsWhole) (arg5 : Memref sig .tc .vmem S1x4096x512 .bf16) (harg5 : arg5.IsWhole)
  (arg6 : Memref sig .tc .vmem S1x1024x256 .bf16) (harg6 : arg6.IsWhole) (x0 : FVec Ideal S1x1024x512 .bf16)
  (x1 x2 : FVec Ideal S1x4096x512 .bf16)
  (hK0 : Scores (fun r => base2 (τ 0 r)) (kernelRun0_A.sl.r (F := Ideal) c arg3 harg3 x0) x1 0)
  (hK1 : Scores (fun r => base2 (τ 1 r)) (kernelRun0_A.sl.r_1 (F := Ideal) c arg3 harg3 x0) x1 1)
  (hK2 : Scores (fun r => base2 (τ 2 r)) (kernelRun0_A.sl.r_2 (F := Ideal) c arg3 harg3 x0) x1 2)
  (hK3 : Scores (fun r => base2 (τ 3 r)) (kernelRun0_A.sl.r_3 (F := Ideal) c arg3 harg3 x0) x1 3)
  (hV : ∀ h, Values (w h) x2 h)

include hu hK0 hK1 hK2 hK3 hV

/-- What the body leaves in its output block. -/
theorem block (r : Fin 1024) (l : Fin 256) :
    out0_A_3 (F := Ideal) c i arg3 harg3 arg4 harg4 arg5 harg5 arg6 harg6 x0 x1 x2 (ix3 0 r l) = val τ w (1024 * (i 2).val) r l := by
  have u0 := up0 (σ := fun h r => base2 (τ h r)) c i arg3 harg3 arg4 harg4 arg5 harg5 arg6 harg6 x0 x1 x2 hK0 hK1 hK2 hK3 hV
  have u1 := up1 (σ := fun h r => base2 (τ h r)) c i arg3 harg3 arg4 harg4 arg5 harg5 arg6 harg6 x0 x1 x2 hK0 hK1 hK2 hK3 hV
  have u2 := up2 (σ := fun h r => base2 (τ h r)) c i arg3 harg3 arg4 harg4 arg5 harg5 arg6 harg6 x0 x1 x2 hK0 hK1 hK2 hK3 hV
  have u3 := up3 (σ := fun h r => base2 (τ h r)) c i arg3 harg3 arg4 harg4 arg5 harg5 arg6 harg6 x0 x1 x2 hK0 hK1 hK2 hK3 hV
  have l0 := lo0 (σ := fun h r => base2 (τ h r)) c i arg3 harg3 arg4 harg4 arg5 harg5 arg6 harg6 x0 x1 x2 hK0 hK1 hK2 hK3 hV
  have l1 := lo1 (σ := fun h r => base2 (τ h r)) c i arg3 harg3 arg4 harg4 arg5 harg5 arg6 harg6 x0 x1 x2 hK0 hK1 hK2 hK3 hV
  have l2 := lo2 (σ := fun h r => base2 (τ h r)) c i arg3 harg3 arg4 harg4 arg5 harg5 arg6 harg6 x0 x1 x2 hK0 hK1 hK2 hK3 hV
  have l3 := lo3 (σ := fun h r => base2 (τ h r)) c i arg3 harg3 arg4 harg4 arg5 harg5 arg6 harg6 x0 x1 x2 hK0 hK1 hK2 hK3 hV
  have hc := cover0_A_3 (F := Ideal) c i arg3 harg3 arg4 harg4 arg5 harg5 arg6 harg6 x0 x1 x2 (ix3 0 r l)
  have e1 : out0_A_3 (F := Ideal) c i arg3 harg3 arg4 harg4 arg5 harg5 arg6 harg6 x0 x1 x2 (ix3 0 r l)
      = View.canon (kernelRun0_A (F := Ideal) c i arg3 harg3 arg4 harg4 arg5 harg5 arg6 harg6 x0 x1 x2).1 (ix3 0 r l) := by
    unfold out0_A_3
    exact View.read_writes_apply_eq_canon _ _ _ _ hc
  rw [e1]
  refine View.canon_eq_of_allAt _ _ _ hc ?_
  unfold kernelRun0_A
  dsimp only
  refine View.allAt_cons_unit _ _ _ _ _ ?_ (View.allAt_cons_unit _ _ _ _ _ ?_
    (View.allAt_cons_unit _ _ _ _ _ ?_ (View.allAt_cons_unit _ _ _ _ _ ?_ (View.allAt_nil _ _))))
  · intro x h
    obtain ⟨a, j, rfl⟩ : ∃ (a : Fin 512) (j : Fin 128), x = ix3 0 a j := ⟨x 1, x 2, by blk_ext⟩
    have h1 : r.val = 512 + a.val := h 1
    have h2 : l.val = 128 + j.val := h 2
    exact pair_lo hu (h := 2) (h' := 3) l2 l3 rfl a j r l h1 h2
  · intro x h
    obtain ⟨a, j, rfl⟩ : ∃ (a : Fin 512) (j : Fin 128), x = ix3 0 a j := ⟨x 1, x 2, by blk_ext⟩
    have h1 : r.val = 512 + a.val := h 1
    have h2 : l.val = 0 + j.val := h 2
    exact pair_lo hu (h := 0) (h' := 1) l0 l1 rfl a j r l h1 h2
  · intro x h
    obtain ⟨a, j, rfl⟩ : ∃ (a : Fin 512) (j : Fin 128), x = ix3 0 a j := ⟨x 1, x 2, by blk_ext⟩
    have h1 : r.val = 0 + a.val := h 1
    have h2 : l.val = 128 + j.val := h 2
    exact pair_up hu (h := 2) (h' := 3) u2 u3 rfl a j r l (h1.trans (Nat.zero_add _)) h2
  · intro x h
    obtain ⟨a, j, rfl⟩ : ∃ (a : Fin 512) (j : Fin 128), x = ix3 0 a j := ⟨x 1, x 2, by blk_ext⟩
    have h1 : r.val = 0 + a.val := h 1
    have h2 : l.val = 0 + j.val := h 2
    exact pair_up hu (h := 0) (h' := 1) u0 u1 rfl a j r l (h1.trans (Nat.zero_add _)) h2

end Cert.KernelIdeal.Flash
-- ==== Proof.FlashScore.lean ====
/- The scores and the values of causal attention, key by key. -/
module

public import proofs.«01_k».proof.Proof.FlashMath
public import Idealize.ShloMosaic.Lib.Pointwise

@[expose] public section

noncomputable section

open Idealize.ShloMosaic Idealize.ShloMosaic.TcCoe Finset

namespace Cert.Softmax

/-- The queries' and keys' shape. -/
abbrev Heads96 : Shape := ⟨4, ![4, 4096, 16, 96]⟩

/-- The values' shape. -/
abbrev Heads64 : Shape := ⟨4, ![4, 4096, 16, 64]⟩

/-- Every entry is a real number. -/
def Finite (x : FVec Ideal Heads96 .f32) : Prop := ∀ i, x i = ((x i).toReal : EReal)

/-- The score of the query `s` and the key `t` of the head `h` of sequence `b`: the product over the root of 96. -/
def score (q k : FVec Ideal Heads96 .f32) (b : Fin 4) (s : Fin 4096) (h : Fin 16) (t : ℕ) : ℝ :=
  if ht : t < 4096 then (∑ d : Fin 96, (q (ix4 b s h d)).toReal * (k (ix4 b ⟨t, ht⟩ h d)).toReal) / √96 else 0

/-- Lane `j` of the value of the key `t`: the value's 64 lanes, then a one, then zeros. -/
def value (v : FVec Ideal Heads64 .f32) (b : Fin 4) (h : Fin 16) (j : Fin 128) (t : ℕ) : EReal :=
  if j.val = 64 then 1 else if hj : j.val < 64 ∧ t < 4096 then v (ix4 b ⟨t, hj.2⟩ h ⟨j.val, hj.1⟩) else 0

/-- A product of a query and a key is a real number. -/
theorem dot_real {q k : FVec Ideal Heads96 .f32} (hq : Finite q) (hk : Finite k) (b : Fin 4) (s t : Fin 4096) (h : Fin 16) :
    ∑ d : Fin 96, q (ix4 b s h d) * k (ix4 b t h d)
      = ((∑ d : Fin 96, (q (ix4 b s h d)).toReal * (k (ix4 b t h d)).toReal : ℝ) : EReal) := by
  rw [coe_sum]
  refine sum_congr rfl fun d _ => ?_
  rw [EReal.coe_mul, ← hq, ← hk]

/-- The literal ninety-six. -/
theorem ninety_six : Ideal.ofBits .f32 0x42C00000#32 = ((96 : ℝ) : EReal) := by
  simp [Ideal.ofBits, Ideal.ieee]
  rw [← EReal.coe_mul]
  norm_num

/-- The literal two. -/
theorem two : Ideal.ofBits .f32 0x40000000#32 = ((2 : ℝ) : EReal) := by
  simp [Ideal.ofBits, Ideal.ieee]
  rw [← EReal.coe_mul]
  norm_num

/-- The root of the literal ninety-six. -/
theorem root96 : Ideal.sqrt (Ideal.ofBits .f32 0x42C00000#32) = ((√96 : ℝ) : EReal) := by
  rw [ninety_six, Ideal.sqrt_coe, if_neg (by norm_num)]

/-- The root of ninety-six is positive. -/
theorem root96_pos : (0 : ℝ) < √96 := Real.sqrt_pos.2 (by norm_num)

/-- The queries' scale. -/
def scale : EReal := Ideal.div (Ideal.ofBits .f32 0x3F800000#32) (Ideal.sqrt (Ideal.ofBits .f32 0x42C00000#32) * Ideal.log (Ideal.ofBits .f32 0x40000000#32))

/-- The queries' scale is one over the root of 96 times the logarithm of two. -/
theorem scale_eq : scale = ((1 / (√96 * Real.log 2) : ℝ) : EReal) := by
  have hl : (0 : ℝ) < Real.log 2 := Real.log_pos one_lt_two
  unfold scale
  rw [root96, two, Ideal.log_coe, if_neg (by norm_num), ← EReal.coe_mul, Ideal.div_coe (mul_pos root96_pos hl).ne', Ideal.ofBits_one_f32, one_mul]

/-- The product of a scaled query and a key is the score in base two. -/
theorem dot_scaled {q k : FVec Ideal Heads96 .f32} (hq : Finite q) (hk : Finite k) (b : Fin 4) (s t : Fin 4096) (h : Fin 16) :
    ∑ d : Fin 96, (q (ix4 b s h d) * scale) * k (ix4 b t h d) = ((score q k b s h t.val / Real.log 2 : ℝ) : EReal) := by
  have hl : (0 : ℝ) < Real.log 2 := Real.log_pos one_lt_two
  have hr := root96_pos
  have e : score q k b s h t.val / Real.log 2
      = ∑ d : Fin 96, ((q (ix4 b s h d)).toReal * (1 / (√96 * Real.log 2))) * (k (ix4 b t h d)).toReal := by
    unfold score
    rw [dif_pos t.isLt, sum_div, sum_div]
    refine sum_congr rfl fun d _ => ?_
    field_simp
  rw [e, coe_sum]
  refine sum_congr rfl fun d _ => ?_
  rw [EReal.coe_mul, EReal.coe_mul, ← hq, ← hk, scale_eq]

end Cert.Softmax
-- ==== Proof.FlashRead.lean ====
/- What the attention call reads: the padded and scaled queries, the padded keys, the padded values with their lane of ones. -/
module

public import proofs.«01_k».proof.Proof.FlashBlock
public import proofs.«01_k».proof.Proof.FlashScore
public import Idealize.ShloMosaic.Lib.StableHlo.ReadAt
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.KernelIdeal.Flash

open Cert.KernelIdeal Cert.KernelIdeal.Gen Cert.Softmax

/-- The heads' 96 lanes in 128, one head after the other. -/
def wide (x : FVec Ideal S4x4096x16x96 .f32) : FVec Ideal S4x4096x2048 .bf16 :=
  truncf .bf16 (shapeCast S4x4096x2048 (pad S4x4096x16x128 ![0, 0, 0, 0] ![0, 0, 0, 32] ![0, 0, 0, 0] x
    (sitofp .f32 (constantI S_ 32 0#32)) pads_S4x4096x16x96_S4x4096x16x128_000_000_000_0320 h_S_) shapeCasts_S4x4096x16x128_S4x4096x2048) bitsLt_bf16_f32

/-- The queries times their scale. -/
def scaled (x : FVec Ideal S4x4096x16x96 .f32) : FVec Ideal S4x4096x16x96 .f32 :=
  mulf x (broadcastInDim S4x4096x16x96 ![] bcast_S_S4x4096x16x96 (Host.divf (constant S_ FTy.f32 0x3F800000#32)
    (mulf (Host.sqrt (constant S_ FTy.f32 0x42C00000#32)) (Host.log (constant S_ FTy.f32 0x40000000#32)))))

/-- A one in lane 64, zeros elsewhere. -/
def unit : FVec Ideal S1x1x1x128 .f32 :=
  select (cmpi CmpIPredicate.eq (iotaInDim S1x1x1x128 32 3) (broadcastInDim S1x1x1x128 ![] bcast_S_S1x1x1x128 (constantI S_ 32 64#32)))
    (broadcastInDim S1x1x1x128 ![] bcast_S_S1x1x1x128 (constant S_ FTy.f32 0x3F800000#32))
    (broadcastInDim S1x1x1x128 ![] bcast_S_S1x1x1x128 (constant S_ FTy.f32 0x00000000#32))

/-- The values' 64 lanes in 128. -/
def padded (x : FVec Ideal S4x4096x16x64 .f32) : FVec Ideal S4x4096x16x128 .f32 :=
  pad S4x4096x16x128 ![0, 0, 0, 0] ![0, 0, 0, 64] ![0, 0, 0, 0] x (sitofp .f32 (constantI S_ 32 0#32))
    pads_S4x4096x16x64_S4x4096x16x128_000_000_000_0640 h_S_

/-- The values' 64 lanes in 128, with their lane of ones, one head after the other. -/
def ones (x : FVec Ideal S4x4096x16x64 .f32) : FVec Ideal S4x4096x2048 .bf16 :=
  truncf .bf16 (shapeCast S4x4096x2048 (addf (padded x)
    (broadcastInDim S4x4096x16x128 ![0, 1, 2, 3] bcast_S1x1x1x128_S4x4096x16x128_0_1_2_3 unit)) shapeCasts_S4x4096x16x128_S4x4096x2048) bitsLt_bf16_f32

/-- Four-axis rows read from the flat array. -/
theorem flat_apply (y : FVec Ideal S4x4096x16x128 .f32) (b : Fin 4) (s : Fin 4096) (h : Fin 16) (x : Fin 128) (l : Fin 2048) (hl : l.val = 128 * h.val + x.val) :
    (truncf .bf16 (shapeCast S4x4096x2048 y shapeCasts_S4x4096x16x128_S4x4096x2048) bitsLt_bf16_f32 : FVec Ideal S4x4096x2048 .bf16) (ix3 b s l)
      = y (ix4 b s h x) := by
  show shapeCast S4x4096x2048 y shapeCasts_S4x4096x16x128_S4x4096x2048 (ix3 b s l) = y (ix4 b s h x)
  refine shapeCast_apply y _ _ _ ?_
  rw [Shape.rowMajor_val_four, Shape.rowMajor_val_three]
  show ((b.val * 4096 + s.val) * 16 + h.val) * 128 + x.val = (b.val * 4096 + s.val) * 2048 + l.val
  omega

/-- The padding is zero. -/
theorem pad_zero (i : S_.Idx) : (sitofp .f32 (constantI S_ 32 0#32) : FVec Ideal S_ .f32) i = 0 := by
  show (((0#32 : BitVec 32).toInt : ℝ) : EReal) = 0
  simp

/-- One of the first 96 lanes of a head. -/
theorem wide_in (x : FVec Ideal S4x4096x16x96 .f32) (b : Fin 4) (s : Fin 4096) (h : Fin 16) (d : Fin 96) (l : Fin 2048) (hl : l.val = 128 * h.val + d.val) :
    wide x (ix3 b s l) = x (ix4 b s h d) := by
  unfold wide
  refine (flat_apply _ b s h ⟨d.val, by omega⟩ l hl).trans ?_
  refine pad_apply_of_inside _ _ _ x _ _ _ _ (ix4 b s h d) fun a => ?_
  match a with
  | 0 => show b.val = 0 + b.val * 1; omega
  | 1 => show s.val = 0 + s.val * 1; omega
  | 2 => show h.val = 0 + h.val * 1; omega
  | 3 => show d.val = 0 + d.val * 1; omega

/-- One of the last 32 lanes of a head. -/
theorem wide_out (x : FVec Ideal S4x4096x16x96 .f32) (b : Fin 4) (s : Fin 4096) (h : Fin 16) (d : Fin 32) (l : Fin 2048) (hl : l.val = 128 * h.val + (96 + d.val)) :
    wide x (ix3 b s l) = 0 := by
  unfold wide
  refine (flat_apply _ b s h ⟨96 + d.val, by omega⟩ l hl).trans ?_
  refine (pad_apply_of_not_inside _ _ _ x _ _ _ _ 3 ?_).trans (pad_zero _)
  show ¬(0 ≤ 96 + d.val ∧ (96 + d.val - 0) % 1 = 0 ∧ (96 + d.val - 0) / 1 < 96)
  omega

/-- A scaled query. -/
theorem scaled_apply (x : FVec Ideal S4x4096x16x96 .f32) (i : S4x4096x16x96.Idx) : scaled x i = x i * scale := by
  unfold scaled scale
  pointwise

/-- The lane of ones. -/
theorem unit_apply (j : Fin 128) : unit (ix4 0 0 0 j) = if j.val = 64 then 1 else 0 := by
  have h : unit (ix4 0 0 0 j) = Scalar.select (IntOp.cmpi CmpIPredicate.eq (BitVec.ofNat 32 j.val) 64#32)
      (Ideal.ofBits .f32 0x3F800000#32) (Ideal.ofBits .f32 0x00000000#32) := by
    unfold unit
    pointwise
  rw [h, Ideal.ofBits_one_f32, Ideal.ofBits_zero_f32]
  have e : (BitVec.ofNat 32 j.val == 64#32) = decide (j.val = 64) := by
    rw [Bool.eq_iff_iff]
    simp only [beq_iff_eq, decide_eq_true_eq]
    constructor
    · intro e
      have := congrArg BitVec.toNat e
      simp only [BitVec.toNat_ofNat] at this
      omega
    · intro e; rw [e]
  simp only [IntOp.cmpi, e, Scalar.select]
  by_cases hj : j.val = 64 <;> simp [hj]

/-- A lane of the values. -/
theorem ones_apply (v : FVec Ideal S4x4096x16x64 .f32) (b : Fin 4) (s : Fin 4096) (h : Fin 16) (j : Fin 128) (l : Fin 2048) (hl : l.val = 128 * h.val + j.val) :
    ones v (ix3 b s l) = value v b h j s.val := by
  unfold ones
  refine (flat_apply _ b s h j l hl).trans ?_
  have e : addf (padded v) (broadcastInDim S4x4096x16x128 ![0, 1, 2, 3] bcast_S1x1x1x128_S4x4096x16x128_0_1_2_3 unit) (ix4 b s h j)
      = padded v (ix4 b s h j) + unit (ix4 0 0 0 j) := by
    generalize unit = u
    generalize padded v = y
    pointwise
  rw [e, unit_apply]
  unfold padded value
  by_cases hj : j.val < 64
  · rw [if_neg (by omega), if_neg (by omega), dif_pos ⟨hj, s.isLt⟩, add_zero]
    refine pad_apply_of_inside _ _ _ v _ _ _ _ (ix4 b s h ⟨j.val, hj⟩) fun a => ?_
    match a with
    | 0 => show b.val = 0 + b.val * 1; omega
    | 1 => show s.val = 0 + s.val * 1; omega
    | 2 => show h.val = 0 + h.val * 1; omega
    | 3 => show j.val = 0 + j.val * 1; omega
  · have hz : pad S4x4096x16x128 ![0, 0, 0, 0] ![0, 0, 0, 64] ![0, 0, 0, 0] v (sitofp .f32 (constantI S_ 32 0#32))
        pads_S4x4096x16x64_S4x4096x16x128_000_000_000_0640 h_S_ (ix4 b s h j) = 0 := by
      refine (pad_apply_of_not_inside _ _ _ v _ _ _ _ 3 ?_).trans (pad_zero _)
      show ¬(0 ≤ j.val ∧ (j.val - 0) % 1 = 0 ∧ (j.val - 0) / 1 < 64)
      omega
    rw [hz, zero_add, dif_neg (fun h => hj h.1)]

variable (m : (ℓ : Loc nD τ sig) → Buf (Elt Ideal) ℓ)

/-- The block of each window at a grid point. -/
theorem idx : ∀ t : Fin cfg0.N, win0_0.index t = ![t.val / 16, t.val % 4, t.val / 4 % 4] ∧ win0_1.index t = ![t.val / 16, 0, t.val / 4 % 4]
    ∧ win0_2.index t = ![t.val / 16, 0, t.val / 4 % 4] ∧ win0_3.index t = ![t.val / 16, t.val % 4, t.val / 4 % 4]
    ∧ (grid0.coords t 2).val = t.val % 4 :=
  (by decide +kernel : ∀ t : Fin grid0.N, _)

/-- The queries. -/
abbrev inQ (c : Dev nD) : FVec Ideal S4x4096x16x96 .f32 := m ((c : Thread nD τ).loc main_arg0)

/-- The keys. -/
abbrev inK (c : Dev nD) : FVec Ideal S4x4096x16x96 .f32 := m ((c : Thread nD τ).loc main_arg1)

/-- The values. -/
abbrev inV (c : Dev nD) : FVec Ideal S4x4096x16x64 .f32 := m ((c : Thread nD τ).loc main_arg2)

/-- The queries the call reads. -/
theorem V13 (c : Dev nD) : (V m c main_v13 : FVec Ideal S4x4096x2048 .bf16) = wide (scaled (inQ m c)) := by
  unfold V
  simp only [List.flatten_cons, List.flatten_nil, List.append_nil, List.cons_append, List.nil_append]
  after_reads_simp
  simp -implicitDefEqProofs only [StableHlo.TRef.toBuf, StableHlo.TRef.ofBuf, cast_cast, cast_eq]
  rfl

/-- The keys the call reads. -/
theorem V16 (c : Dev nD) : (V m c main_v16 : FVec Ideal S4x4096x2048 .bf16) = wide (inK m c) := by
  unfold V
  simp only [List.flatten_cons, List.flatten_nil, List.append_nil, List.cons_append, List.nil_append]
  after_reads_simp
  simp -implicitDefEqProofs only [StableHlo.TRef.toBuf, StableHlo.TRef.ofBuf, cast_cast, cast_eq]
  rfl

/-- The values the call reads. -/
theorem V21 (c : Dev nD) : (V m c main_v21 : FVec Ideal S4x4096x2048 .bf16) = ones (inV m c) := by
  unfold V
  simp only [List.flatten_cons, List.flatten_nil, List.append_nil, List.cons_append, List.nil_append]
  after_reads_simp
  simp -implicitDefEqProofs only [StableHlo.TRef.toBuf, StableHlo.TRef.ofBuf, cast_cast, cast_eq]
  rfl

section Blocks

variable (c : Dev nD) (t : Fin cfg0.N)

/-- The sequence of a grid point. -/
def seq : Fin 4 := ⟨t.val / 16, by have := t.isLt; change t.val < 64 at this; omega⟩

/-- A query of a grid point. -/
def row (r : Fin 1024) : Fin 4096 := ⟨1024 * (t.val % 4) + r.val, by omega⟩

/-- A head of a grid point. -/
def hd (h : Fin 4) : Fin 16 := ⟨4 * (t.val / 4 % 4) + h.val, by omega⟩

/-- A lane of a grid point. -/
def lane (l : Fin 512) : Fin 2048 := ⟨512 * (t.val / 4 % 4) + l.val, by omega⟩

/-- The place of the query block in its array. -/
theorem placeQ (W : (b : Ref sig .tc) → Buf (Elt Ideal) ((c : Thread nD τ).loc b)) (r : Fin 1024) (l : Fin 512) :
    ((cfg0.win 0).blk t).view.read (Elt Ideal) (W (Pipeline.arrRef spec0 0)) (ix3 0 r l) = W main_v13 (ix3 (seq t) (row t r) (lane t l)) := by
  have h : ((cfg0.win 0).blk t).view.emb (ix3 0 r l) = (ix3 (seq t) (row t r) (lane t l) : S4x4096x2048.Idx) := by
    blk_ext [idx t, seq, row, lane]
  exact congrArg (W main_v13) h

/-- The query block of a grid point. -/
theorem readQ (r : Fin 1024) (l : Fin 512) : iblk m c 0 t (ix3 0 r l) = wide (scaled (inQ m c)) (ix3 (seq t) (row t r) (lane t l)) := by
  unfold iblk
  refine (placeQ c t (V m c) r l).trans ?_
  exact congrFun (V13 m c) _

/-- The place of the key block in its array. -/
theorem placeK (W : (b : Ref sig .tc) → Buf (Elt Ideal) ((c : Thread nD τ).loc b)) (s : Fin 4096) (l : Fin 512) :
    ((cfg0.win 1).blk t).view.read (Elt Ideal) (W (Pipeline.arrRef spec0 1)) (ix3 0 s l) = W main_v16 (ix3 (seq t) s (lane t l)) := by
  have h : ((cfg0.win 1).blk t).view.emb (ix3 0 s l) = (ix3 (seq t) s (lane t l) : S4x4096x2048.Idx) := by
    blk_ext [idx t, seq, row, lane]
  exact congrArg (W main_v16) h

/-- The key block of a grid point. -/
theorem readK (s : Fin 4096) (l : Fin 512) : iblk m c 1 t (ix3 0 s l) = wide (inK m c) (ix3 (seq t) s (lane t l)) := by
  unfold iblk
  refine (placeK c t (V m c) s l).trans ?_
  exact congrFun (V16 m c) _

/-- The place of the value block in its array. -/
theorem placeV (W : (b : Ref sig .tc) → Buf (Elt Ideal) ((c : Thread nD τ).loc b)) (s : Fin 4096) (l : Fin 512) :
    ((cfg0.win 2).blk t).view.read (Elt Ideal) (W (Pipeline.arrRef spec0 2)) (ix3 0 s l) = W main_v21 (ix3 (seq t) s (lane t l)) := by
  have h : ((cfg0.win 2).blk t).view.emb (ix3 0 s l) = (ix3 (seq t) s (lane t l) : S4x4096x2048.Idx) := by
    blk_ext [idx t, seq, row, lane]
  exact congrArg (W main_v21) h

/-- The value block of a grid point. -/
theorem readV (s : Fin 4096) (l : Fin 512) : iblk m c 2 t (ix3 0 s l) = ones (inV m c) (ix3 (seq t) s (lane t l)) := by
  unfold iblk
  refine (placeV c t (V m c) s l).trans ?_
  exact congrFun (V21 m c) _

end Blocks

end Cert.KernelIdeal.Flash
-- ==== Proof.FlashRef.lean ====
/- The reference of the attention call, entry by entry. -/
module

public import proofs.«01_k».proof.Proof.FlashScore
public import proofs.«01_k».proof.Proof.Gen.ReferenceIdeal.Run
public import proofs.«01_k».proof.Proof.Gen.ReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Finset

namespace Cert.Softmax

/-- A sum over the keys up to `s` of a longer row that is zero after `s`. -/
theorem sum_prefix {N : ℕ} {s : ℕ} (hs : s < N) (f : Fin N → EReal) (g : ℕ → EReal) (h : ∀ t : Fin N, t.val ≤ s → f t = g t.val)
    (h' : ∀ t : Fin N, s < t.val → f t = 0) : ∑ t, f t = ∑ t ∈ range (s + 1), g t := by
  have e : ∀ t : Fin N, f t = (fun n => if n ≤ s then g n else 0) t.val := by
    intro t
    by_cases ht : t.val ≤ s
    · rw [h t ht]; exact (if_pos ht).symm
    · rw [h' t (by omega)]; exact (if_neg ht).symm
  rw [sum_congr rfl fun t _ => e t, Fin.sum_univ_eq_sum_range (fun n => if n ≤ s then g n else 0) N,
    ← sum_subset (range_subset_range.2 hs) fun t _ ht => if_neg (by rw [mem_range] at ht; omega)]
  exact sum_congr rfl fun t ht => if_pos (by rw [mem_range] at ht; omega)

/-- The softmax of a masked row of scores, applied to the values. -/
theorem masked {N : ℕ} {s : ℕ} (hs : s < N) (τ : ℕ → ℝ) (v : ℕ → EReal) (x : Fin N → EReal)
    (hx : ∀ t : Fin N, x t = if t.val ≤ s then (τ t.val : EReal) else ⊥) (M L : EReal) (hM : M = max ⊥ (univ.sup x))
    (hL : L = 0 + ∑ t, Ideal.exp (x t - M)) :
    ∑ t : Fin N, v t.val * Ideal.div (Ideal.exp (x t - M)) L = soft τ v (s + 1) := by
  obtain ⟨μ, hμ⟩ := max_real (σ := τ) (v := v) (n := 0) (M := ⊥) (A := 0) (Or.inl ⟨rfl, rfl, rfl⟩) (g := s + 1) (by omega) (N := N) hs x
    (fun c hc => by rw [hx, if_pos (by omega), Nat.zero_add]) (fun c hc => by rw [hx, if_neg (by omega)])
  rw [← hM] at hμ
  have e1 : ∀ t : Fin N, t.val ≤ s → Ideal.exp (x t - M) = ((Real.exp (τ t.val) * Real.exp (-μ) : ℝ) : EReal) := by
    intro t ht
    rw [hx, if_pos ht, hμ, ← EReal.coe_sub, Ideal.exp_coe, ← Real.exp_add, sub_eq_add_neg]
  have e2 : ∀ t : Fin N, s < t.val → Ideal.exp (x t - M) = 0 := by
    intro t ht
    rw [hx, if_neg (by omega), hμ, EReal.bot_sub]
    exact Ideal.exp_bot
  have hL' : L = (((∑ t ∈ range (s + 1), Real.exp (τ t)) * Real.exp (-μ) : ℝ) : EReal) := by
    rw [hL, zero_add, sum_prefix hs _ (fun n => ((Real.exp (τ n) * Real.exp (-μ) : ℝ) : EReal)) e1 e2, ← coe_sum, sum_mul]
  have hpos : 0 < ∑ t ∈ range (s + 1), Real.exp (τ t) := sum_pos (fun t _ => Real.exp_pos _) ⟨0, mem_range.2 (by omega)⟩
  have hne : (∑ t ∈ range (s + 1), Real.exp (τ t)) * Real.exp (-μ) ≠ 0 := (mul_pos hpos (Real.exp_pos _)).ne'
  unfold soft
  refine sum_prefix hs _ _ (fun t ht => ?_) (fun t ht => ?_)
  · rw [e1 t ht, hL', Ideal.div_coe hne, mul_comm, ← EReal.coe_mul]
    congr 2
    have := Real.exp_pos (-μ)
    field_simp
  · rw [e2 t ht, hL', Ideal.div_coe hne, zero_mul, mul_zero]

/-- The words of two positions compare as the positions. -/
theorem le_words {a b : ℕ} (ha : a < 4096) (hb : b < 4096) :
    IntOp.cmpi CmpIPredicate.sle (BitVec.ofNat 32 a) (BitVec.ofNat 32 b) = if a ≤ b then 1#1 else 0#1 := by
  have h : (BitVec.ofNat 32 a).sle (BitVec.ofNat 32 b) = decide (a ≤ b) := by
    rw [BitVec.sle_eq_decide]
    rw [BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  simp only [IntOp.cmpi, h]
  by_cases hab : a ≤ b <;> simp [hab]

end Cert.Softmax

namespace Cert.ReferenceIdeal.Flash

open Cert.ReferenceIdeal Cert.ReferenceIdeal.Gen Cert.ReferenceIdeal.Read Cert.Softmax

variable (q k : FVec Ideal S4x4096x16x96 .f32) (v : FVec Ideal S4x4096x16x64 .f32)

/-- A score before the mask. -/
theorem v5_at (hq : Finite q) (hk : Finite k) (b : Fin 4) (h : Fin 16) (s t : Fin 4096) :
    val_main_v5 (F := Ideal) q k (ix4 b h s t) = (score q k b s h t.val : EReal) := by
  have e2 : val_main_v2 (F := Ideal) q k (ix4 b h s t) = ∑ d : Fin 96, q (ix4 b s h d) * k (ix4 b t h d) := by
    refine (val_main_v2_apply _ _ _).trans (Finset.sum_congr rfl fun d _ => ?_)
    refine congr_arg₂ _ (congrArg q ?_) (congrArg k ?_) <;> blk_ext
  rw [val_main_v5_apply, val_main_v4_apply, val_main_v3_apply, val_main_cst_apply, e2, dot_real hq hk]
  show Ideal.div _ (Ideal.sqrt (Ideal.ofBits .f32 0x42C00000#32)) = _
  rw [root96, Ideal.div_coe root96_pos.ne', ← EReal.coe_mul]
  unfold score
  rw [dif_pos t.isLt, mul_one_div]

/-- The mask. -/
theorem v10_at (s t : Fin 4096) : val_main_v10 (F := Ideal) (ix2 s t) = if t.val ≤ s.val then 1#1 else 0#1 := by
  rw [val_main_v10_apply, val_main_v8_apply, val_main_v9_apply, val_main_v6_apply, val_main_v7_apply, val_main_v0_apply, val_main_v1_apply]
  exact le_words t.isLt s.isLt

/-- A score after the mask. -/
theorem v11_at (hq : Finite q) (hk : Finite k) (b : Fin 4) (h : Fin 16) (s t : Fin 4096) :
    val_main_v11 (F := Ideal) q k (ix4 b h s t) = if t.val ≤ s.val then (score q k b s h t.val : EReal) else ⊥ := by
  rw [val_main_v11_apply, v5_at q k hq hk, val_main_call0_v1_apply, val_main_call0_v2_apply, val_main_call0_v0_apply, val_main_cst_0_apply]
  have e : idx_main_call0_v1 (ix4 b h s t) = ix2 s t := by blk_ext
  rw [e, v10_at]
  have hb : Ideal.ofBits FTy.f32 0xFF800000#32 = (⊥ : EReal) := by simp [Ideal.ofBits, Ideal.ieee]
  by_cases ht : t.val ≤ s.val
  · simp [ht, Scalar.select]
  · simp only [ht, Scalar.select, if_false]
    exact hb

/-- The maximum of a row of scores. -/
theorem v14_at (b : Fin 4) (h : Fin 16) (s : Fin 4096) :
    val_main_v14 (F := Ideal) q k (ix3 b h s) = max ⊥ (univ.sup fun t => val_main_v11 (F := Ideal) q k (ix4 b h s t)) := by
  have hb : Ideal.ofBits FTy.f32 0xFF800000#32 = (⊥ : EReal) := by simp [Ideal.ofBits, Ideal.ieee]
  have e : val_main_v12 (F := Ideal) q k (ix3 b h s) = univ.sup fun t => val_main_v11 (F := Ideal) q k (ix4 b h s t) := by
    have hf : ∀ x : Fin 4096 → EReal, univ.sup x = Finset.fold max (Ideal.ofBits FTy.f32 0xFF800000#32) x univ := by
      intro x; rw [hb]; rfl
    rw [hf]
    unfold val_main_v12
    generalize val_main_v11 (F := Ideal) q k = y
    unfold val_main_cst_1
    pointwise
  rw [val_main_v14_apply, e, val_main_v13_apply, val_main_cst_2_apply]
  exact congrArg (max · _) hb

/-- A weight before the division. -/
theorem v18_at (b : Fin 4) (h : Fin 16) (s t : Fin 4096) : val_main_v18 (F := Ideal) q k (ix4 b h s t)
    = Ideal.exp (val_main_v11 (F := Ideal) q k (ix4 b h s t) - val_main_v14 (F := Ideal) q k (ix3 b h s)) := by
  rw [val_main_v18_apply, val_main_v17_apply, val_main_v16_apply, val_main_v15_apply]
  have e : idx_main_v15 (idx_main_v16 (ix4 b h s t)) = ix3 b h s := by blk_ext
  rw [e]
  rfl

/-- The sum of a row of weights. -/
theorem v19_at (b : Fin 4) (h : Fin 16) (s : Fin 4096) : val_main_v19 (F := Ideal) q k (ix3 b h s)
    = 0 + ∑ t, Ideal.exp (val_main_v11 (F := Ideal) q k (ix4 b h s t) - val_main_v14 (F := Ideal) q k (ix3 b h s)) := by
  refine (val_main_v19_apply _ _ _).trans ?_
  rw [val_main_cst_3_apply]
  refine congr_arg₂ _ Ideal.ofBits_zero_f32 (Finset.sum_congr rfl fun t _ => ?_)
  have e : idx_main_v19 (ix3 b h s) t = ix4 b h s t := by blk_ext
  rw [e, v18_at]

/-- A weight. -/
theorem v22_at (b : Fin 4) (h : Fin 16) (s t : Fin 4096) : val_main_v22 (F := Ideal) q k (ix4 b h s t)
    = Ideal.div (Ideal.exp (val_main_v11 (F := Ideal) q k (ix4 b h s t) - val_main_v14 (F := Ideal) q k (ix3 b h s)))
        (val_main_v19 (F := Ideal) q k (ix3 b h s)) := by
  rw [val_main_v22_apply, v18_at, val_main_v21_apply, val_main_v20_apply]
  have e : idx_main_v20 (idx_main_v21 (ix4 b h s t)) = ix3 b h s := by blk_ext
  rw [e]
  rfl

/-- A lane of the head's output: the softmax of the scores of the keys up to the query, applied to the values. -/
theorem v23_at (hq : Finite q) (hk : Finite k) (b : Fin 4) (h : Fin 16) (d : Fin 64) (s : Fin 4096) :
    val_main_v23 (F := Ideal) q k v (ix4 b h d s) = soft (score q k b s h) (value v b h ⟨d.val, by omega⟩) (s.val + 1) := by
  refine Eq.trans ?_ (masked (N := 4096) s.isLt (score q k b s h) (value v b h ⟨d.val, by omega⟩) (fun t => val_main_v11 (F := Ideal) q k (ix4 b h s t))
    (fun t => v11_at q k hq hk b h s t) _ _ (v14_at q k b h s) (v19_at q k b h s))
  refine (val_main_v23_apply _ _ _ _).trans (Finset.sum_congr rfl fun t _ => ?_)
  have e : ridx_main_v23 (ix4 b h d s) t = ix4 b h s t := by blk_ext
  have e' : lidx_main_v23 (ix4 b h d s) t = ix4 b t h d := by blk_ext
  have ev : value v b h ⟨d.val, by omega⟩ t.val = v (ix4 b t h d) := by
    unfold value
    rw [if_neg (by show d.val ≠ 64; omega), dif_pos ⟨d.isLt, t.isLt⟩]
  rw [e, e', v22_at, ev]

/-- An entry of the reference's result. -/
theorem v26_at (hq : Finite q) (hk : Finite k) (b : Fin 4) (s : Fin 4096) (l : Fin 1024) :
    val_main_v26 (F := Ideal) q k v (ix3 b s l)
      = soft (score q k b s ⟨l.val / 64, by omega⟩) (value v b ⟨l.val / 64, by omega⟩ ⟨l.val % 64, by omega⟩) (s.val + 1) := by
  rw [val_main_v26_apply]
  show val_main_v25 (F := Ideal) q k v (ix3 b s l) = _
  rw [val_main_v25_apply, val_main_v24_apply]
  have e : idx_main_v24 (idx_main_v25 (ix3 b s l)) = ix4 b ⟨l.val / 64, by omega⟩ ⟨l.val % 64, by omega⟩ s := by blk_ext
  rw [e, v23_at q k v hq hk]

end Cert.ReferenceIdeal.Flash
-- ==== Proof.FlashFinal.lean ====
/- The attention call writes the reference's rows. -/
module

public import proofs.«01_k».proof.Proof.FlashRead
public import proofs.«01_k».proof.Proof.FlashRef

@[expose] public section

set_option maxRecDepth 16384

noncomputable section

open Idealize.ShloMosaic Idealize.ShloMosaic.TcCoe Idealize.SL.Sem
open Idealize.ShloMosaic.Pipeline (Dat)

namespace Cert.KernelIdeal.Flash

open Cert.KernelIdeal Cert.KernelIdeal.Gen Cert.Softmax

/-- A rectangle of the query block, entry by entry. -/
theorem rdq {κ : Kind} {sp : Space} {m : Memref sig κ sp S1x1024x512 .bf16} (hm : m.IsWhole) (X : FVec Ideal S1x1024x512 .bf16) {off : Fin 3 → ℕ}
    (inb : ∀ a, off a + S1x1024x128.size a ≤ S1x1024x512.size a) {l : ℕ} (h : off = ![0, 0, l]) (hl : l + 128 ≤ 512)
    (r : Fin 1024) (x : Fin 128) :
    (show FVec Ideal S1x1024x128 .bf16 from
      View.readAt (Elt Ideal) m.view (Rect.unit (s := S1x1024x512) off S1x1024x128.size inb).toLoadRect (hm.unread (Val := Elt Ideal) X)) (ix3 0 r x)
      = X (ix3 0 r ⟨l + x.val, by omega⟩) := by
  subst h
  have h := congrArg (fun Y => Y ((Rect.unit (s := S1x1024x512) ![0, 0, l] S1x1024x128.size inb).emb (ix3 0 r x))) (hm.read_unread (Val := Elt Ideal) X)
  refine Eq.trans (show _ = _ from h) (congrArg X (funext fun a => Fin.ext ?_))
  match a with
  | 0 => rfl
  | 1 => show 0 + 1 * r.val = r.val; omega
  | 2 => show l + 1 * x.val = l + x.val; omega

/-- The rows of a loaded query rectangle. -/
theorem rows (y : FVec Ideal S1x1024x128 .bf16) (r : Fin 1024) (x : Fin 128) : k0_pay57 y (ix2 r x) = y (ix3 0 r x) := by
  unfold k0_pay57
  pointwise

variable (m : (ℓ : Loc nD τ sig) → Buf (Elt Ideal) ℓ) (c : Dev nD) (t : Fin cfg0.N)

/-- The scores of a grid point's heads. -/
def τs (h : Fin 4) (r : Fin 1024) : ℕ → ℝ := score (inQ m c) (inK m c) (seq t) (row t r) (hd t h)

/-- The values of a grid point's heads. -/
def ws (h : Fin 4) (j : Fin 128) : ℕ → EReal := value (inV m c) (seq t) (hd t h) j

/-- The lane of ones of a grid point's heads. -/
theorem ws_one (h : Fin 4) (n : ℕ) : ws m c t h 64 n = 1 := by
  unfold ws value
  exact if_pos rfl

/-- The value block holds the heads' values. -/
theorem values (h : Fin 4) : Values (ws m c t h) (iblk m c 2 t) h := by
  intro j n
  refine (readV m c t n _).trans (ones_apply _ _ _ (hd t h) j _ ?_)
  show 512 * (t.val / 4 % 4) + (128 * h.val + j.val) = 128 * (4 * (t.val / 4 % 4) + h.val) + j.val
  omega

variable {m c} (hq : Finite (inQ m c)) (hk : Finite (inK m c))

include hq hk

/-- The query block's rows and the key block's rows have the heads' scores as products. -/
theorem scores (h : Fin 4) (y : FVec Ideal S1024x128 .bf16)
    (hy : ∀ r x, y (ix2 r x) = iblk m c 0 t (ix3 0 r ⟨128 * h.val + x.val, by omega⟩)) :
    Scores (fun r => base2 (τs m c t h r)) y (iblk m c 1 t) h := by
  intro r n
  have ht : t.val < 64 := t.isLt
  have e : ∀ x : Fin 128, y (ix2 r x) * iblk m c 1 t (ix3 0 n ⟨128 * h.val + x.val, by omega⟩)
      = wide (scaled (inQ m c)) (ix3 (seq t) (row t r) (lane t ⟨128 * h.val + x.val, by omega⟩))
        * wide (inK m c) (ix3 (seq t) n (lane t ⟨128 * h.val + x.val, by omega⟩)) := by
    intro x
    rw [hy, readQ, readK]
  have hl : ∀ x : Fin 128, (lane t ⟨128 * h.val + x.val, by omega⟩).val = 128 * (hd t h).val + x.val := by
    intro x
    show 512 * (t.val / 4 % 4) + (128 * h.val + x.val) = 128 * (4 * (t.val / 4 % 4) + h.val) + x.val
    omega
  rw [Finset.sum_congr rfl fun x _ => e x]
  refine (Fin.sum_univ_add (a := 96) (b := 32) _).trans ?_
  have z : ∀ x : Fin 32, wide (inK m c) (ix3 (seq t) n (lane t ⟨128 * h.val + (Fin.natAdd 96 x).val, by have := (Fin.natAdd 96 x).isLt; omega⟩)) = 0 :=
    fun x => wide_out _ _ _ (hd t h) x _ (hl (Fin.natAdd 96 x))
  have w : ∀ x : Fin 96, wide (inK m c) (ix3 (seq t) n (lane t ⟨128 * h.val + (Fin.castAdd 32 x).val, by have := (Fin.castAdd 32 x).isLt; omega⟩)) = inK m c (ix4 (seq t) n (hd t h) x) :=
    fun x => wide_in _ _ _ (hd t h) x _ (hl (Fin.castAdd 32 x))
  have u : ∀ x : Fin 96, wide (scaled (inQ m c)) (ix3 (seq t) (row t r) (lane t ⟨128 * h.val + (Fin.castAdd 32 x).val, by have := (Fin.castAdd 32 x).isLt; omega⟩)) = inQ m c (ix4 (seq t) (row t r) (hd t h) x) * scale :=
    fun x => (wide_in _ _ _ (hd t h) x _ (hl (Fin.castAdd 32 x))).trans (scaled_apply _ _)
  simp only [z, w, u, mul_zero, Finset.sum_const_zero, add_zero]
  exact dot_scaled hq hk (seq t) (row t r) n (hd t h)

/-- The block a grid point writes. -/
theorem written (r : Fin 1024) (l : Fin 256) : outsAt0 m c t (ix3 0 r l) = val (τs m c t) (ws m c t) (1024 * (grid0.coords t 2).val) r l := by
  refine block (ws_one m c t) c (grid0.coords t) _ (hs0_0 t) _ (hs0_1 t) _ (hs0_2 t) _ (hs0_3 t) (iblk m c 0 t) (iblk m c 1 t) (iblk m c 2 t) ?_ ?_ ?_ ?_ (values m c t) r l
  · exact scores t hq hk 0 _ fun r x => (rows _ r x).trans (rdq (hs0_0 t) _ _ rfl (by omega) r x)
  · exact scores t hq hk 1 _ fun r x => (rows _ r x).trans (rdq (hs0_0 t) _ _ rfl (by omega) r x)
  · exact scores t hq hk 2 _ fun r x => (rows _ r x).trans (rdq (hs0_0 t) _ _ rfl (by omega) r x)
  · exact scores t hq hk 3 _ fun r x => (rows _ r x).trans (rdq (hs0_0 t) _ _ rfl (by omega) r x)

omit t in
/-- The array the call returns. -/
theorem final : (dats m 0 c).arrAt 3 (cfgs 0).N
    = Cert.ReferenceIdeal.Read.val_main_v26 (F := Ideal) (inQ m c) (inK m c) (inV m c) := by
  refine (dats m 0 c).arrAt_eq_of_covers 3 _ (by decide +kernel) fun t _ y => ?_
  blk_simp
  rw [after0_3]
  obtain ⟨r, l, rfl⟩ : ∃ (r : Fin 1024) (l : Fin 256), y = ix3 0 r l := ⟨y 1, y 2, by blk_ext⟩
  have ht : t.val < 64 := t.isLt
  have h : ((cfg0.win 3).blk t).view.emb (ix3 0 r l) = (ix3 (seq t) (row t r) ⟨256 * (t.val / 4 % 4) + l.val, by omega⟩ : S4x4096x1024.Idx) := by
    blk_ext [idx t, seq, row]
  refine (written t hq hk r l).trans ?_
  rw [h, Cert.ReferenceIdeal.Flash.v26_at _ _ _ hq hk, (idx t).2.2.2.2]
  unfold val τs ws
  have e1 : (⟨(256 * (t.val / 4 % 4) + l.val) / 64, by omega⟩ : Fin 16) = hd t ⟨l.val / 64, by omega⟩ := by
    apply Fin.ext
    show (256 * (t.val / 4 % 4) + l.val) / 64 = 4 * (t.val / 4 % 4) + l.val / 64
    omega
  have e2 : (⟨(256 * (t.val / 4 % 4) + l.val) % 64, by omega⟩ : Fin 128) = ⟨l.val % 64, by omega⟩ := by
    apply Fin.ext
    show (256 * (t.val / 4 % 4) + l.val) % 64 = l.val % 64
    omega
  have e3 : (row t r).val + 1 = 1024 * (t.val % 4) + r.val + 1 := rfl
  rw [e3]
  show _ = soft (score _ _ _ _ (⟨(256 * (t.val / 4 % 4) + l.val) / 64, by omega⟩ : Fin 16)) (value _ _ (⟨(256 * (t.val / 4 % 4) + l.val) / 64, by omega⟩ : Fin 16) (⟨(256 * (t.val / 4 % 4) + l.val) % 64, by omega⟩ : Fin 128)) _
  rw [e1, e2]

end Cert.KernelIdeal.Flash
-- ==== Proof.lean ====
/- The certificate of five calls of the layers: the prompt group's causal attention (`Kernel`), the last layer's residual
   feed-forward call on the prompt (`Kernel2`), the first layer's on the prompt (`Kernel3`), the last layer's on the
   samples (`Kernel4`), and the first layer's input projection of the prompt (`Kernel5`). For each: the programs run, and
   at the extended reals they return what their references return, the attention for finite queries and keys. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.FfnFinal
public import proofs.«01_k».proof.Proof.FfnFinal3
public import proofs.«01_k».proof.Proof.FfnFinal4
public import proofs.«01_k».proof.Proof.ProjFinal
public import proofs.«01_k».proof.Proof.FlashFinal
public import Idealize.ShloMosaic.Lib.ReduceAll
public import Idealize.ShloMosaic.Lib.Quiescent
public import Idealize.ShloMosaic.Lib.Pointwise
public import Idealize.ShloMosaic.Adequacy
public import Idealize.ShloMosaic.Init

@[expose] public section

noncomputable section

namespace Cert.Proof

open Idealize.ShloMosaic Idealize.SL.Sem Cert.Kernel

/-- The feed-forward call and its reference return the same rows. -/
theorem ffn_algebraic : Cert.algebraic_Kernel2Ideal_Reference2Ideal (hKernel2Ideal := Cert.Kernel2Ideal.Gen.facts)
    (hReference2Ideal := Cert.Reference2Ideal.Gen.facts) := by
  intro m g m' g' _ hag
  refine ⟨fun c => (Cert.Kernel2Ideal.Gen.dats m 0 c).arrAt 6 Cert.Kernel2Ideal.cfg0.N, Cert.Kernel2Ideal.Value.run_blocks m g, ?_⟩
  refine (θ_run Cert.Reference2Ideal.defs _ _).mono (fun r h c => ⟨?_, (h c).2⟩) (Cert.Reference2Ideal.Value.run m' g')
  obtain ⟨h0, h1, h2, h3, h4, h5⟩ := hag c
  rw [(h c).1, Cert.Reference2Ideal.Read.val_main_v30_eq, h0, h1, h2, h3, h4, h5]
  exact (Cert.Kernel2Ideal.Ffn.final m c).symm

/-- The first layer's feed-forward call and its reference return the same rows. -/
theorem ffn3_algebraic : Cert.algebraic_Kernel3Ideal_Reference3Ideal (hKernel3Ideal := Cert.Kernel3Ideal.Gen.facts)
    (hReference3Ideal := Cert.Reference3Ideal.Gen.facts) := by
  intro m g m' g' _ hag
  refine ⟨fun c => (Cert.Kernel3Ideal.Gen.dats m 0 c).arrAt 8 Cert.Kernel3Ideal.cfg0.N, Cert.Kernel3Ideal.Value.run_blocks m g, ?_⟩
  refine (θ_run Cert.Reference3Ideal.defs _ _).mono (fun r h c => ⟨?_, (h c).2⟩) (Cert.Reference3Ideal.Value.run m' g')
  obtain ⟨h0, h1, h2, h3, h4, h5, h6⟩ := hag c
  rw [(h c).1, Cert.Reference3Ideal.Read.val_main_v31_eq, h0, h1, h2, h3, h4, h5, h6]
  exact (Cert.Kernel3Ideal.Ffn.final m c).symm

/-- The feed-forward call on the samples and its reference return the same rows. -/
theorem ffn4_algebraic : Cert.algebraic_Kernel4Ideal_Reference4Ideal (hKernel4Ideal := Cert.Kernel4Ideal.Gen.facts)
    (hReference4Ideal := Cert.Reference4Ideal.Gen.facts) := by
  intro m g m' g' _ hag
  refine ⟨fun c => (Cert.Kernel4Ideal.Gen.dats m 0 c).arrAt 6 Cert.Kernel4Ideal.cfg0.N, Cert.Kernel4Ideal.Value.run_blocks m g, ?_⟩
  refine (θ_run Cert.Reference4Ideal.defs _ _).mono (fun r h c => ⟨?_, (h c).2⟩) (Cert.Reference4Ideal.Value.run m' g')
  obtain ⟨h0, h1, h2, h3, h4, h5⟩ := hag c
  rw [(h c).1, Cert.Reference4Ideal.Read.val_main_v30_eq, h0, h1, h2, h3, h4, h5]
  exact (Cert.Kernel4Ideal.Ffn.final m c).symm

/-- The input projection and its reference return the same rows, in each of the five outputs. -/
theorem proj_algebraic : Cert.algebraic_Kernel5Ideal_Reference5Ideal (hKernel5Ideal := Cert.Kernel5Ideal.Gen.facts)
    (hReference5Ideal := Cert.Reference5Ideal.Gen.facts) := by
  intro m g m' g' _ hag
  refine ⟨fun c => (Cert.Kernel5Ideal.Gen.dats m 0 c).arrAt 7 Cert.Kernel5Ideal.cfg0.N,
    fun c => (Cert.Kernel5Ideal.Gen.dats m 0 c).arrAt 8 Cert.Kernel5Ideal.cfg0.N,
    fun c => (Cert.Kernel5Ideal.Gen.dats m 0 c).arrAt 9 Cert.Kernel5Ideal.cfg0.N,
    fun c => (Cert.Kernel5Ideal.Gen.dats m 0 c).arrAt 10 Cert.Kernel5Ideal.cfg0.N,
    fun c => (Cert.Kernel5Ideal.Gen.dats m 0 c).arrAt 11 Cert.Kernel5Ideal.cfg0.N, Cert.Kernel5Ideal.Value.run_blocks m g, ?_⟩
  refine (θ_run Cert.Reference5Ideal.defs _ _).mono (fun r h c => ?_) (Cert.Reference5Ideal.Value.run m' g')
  obtain ⟨h0, h1, h2⟩ := hag c
  obtain ⟨e0, e1, e2, e3, e4, hk⟩ := h c
  refine ⟨?_, ?_, ?_, ?_, ?_, hk⟩
  · rw [e0, Cert.Reference5Ideal.Read.val_main_v25_eq, h0, h1, h2]
    exact (Cert.Kernel5Ideal.Proj.final7 m c).symm
  · rw [e1, Cert.Reference5Ideal.Read.val_main_v26_eq, h0, h1, h2]
    exact (Cert.Kernel5Ideal.Proj.final8 m c).symm
  · rw [e2, Cert.Reference5Ideal.Read.val_main_v27_eq, h0, h1, h2]
    exact (Cert.Kernel5Ideal.Proj.final9 m c).symm
  · rw [e3, Cert.Reference5Ideal.Read.val_main_v28_eq, h0, h1, h2]
    exact (Cert.Kernel5Ideal.Proj.final10 m c).symm
  · rw [e4, Cert.Reference5Ideal.Read.val_main_v29_eq, h0, h1, h2]
    exact (Cert.Kernel5Ideal.Proj.final11 m c).symm

/-- The side conditions of the precondition's operations. -/
theorem pre_facts : Cert.Pre_finite_scores.Facts := ⟨by decide, by decide, by decide⟩

/-- A number whose magnitude compares below infinity is finite. -/
theorem finite_of_lt (x : EReal)
    (h : (FloatOps.cmpf (F := Ideal) .olt (FloatOps.absf (F := Ideal) (φ := .f32) x) (FloatOps.ofBits (F := Ideal) .f32 0x7F800000#32)) = 1#1) :
    x = (x.toReal : EReal) := by
  have e : Ideal.ofBits FTy.f32 0x7F800000#32 = (⊤ : EReal) := by simp [Ideal.ofBits, Ideal.ieee]
  change BitVec.ofBool (decide (max x (-x) < Ideal.ofBits FTy.f32 0x7F800000#32)) = 1#1 at h
  rw [e] at h
  refine (EReal.coe_toReal ?_ ?_).symm
  · rintro rfl
    simp at h
  · rintro rfl
    simp at h

/-- The precondition, read: every query and every key is a real number. -/
theorem finite_args {m : (ℓ : Loc Cert.KernelIdeal.nD Cert.KernelIdeal.τ Cert.KernelIdeal.sig) → Buf (Elt Ideal) ℓ}
    (h : Cert.Pre_KernelIdeal_finite_scores (hPre_finite_scores := pre_facts) m) (c : Dev Cert.KernelIdeal.nD) :
    Cert.Softmax.Finite (Cert.KernelIdeal.Flash.inQ m c) ∧ Cert.Softmax.Finite (Cert.KernelIdeal.Flash.inK m c) := by
  haveI := pre_facts
  have e := h c
  have e0 := congrFun e (fun a => a.elim0)
  dsimp only [Cert.Pre_finite_scores.fn] at e0
  obtain ⟨e1, e2⟩ := IntOp.andi_eq_one.1 e0
  haveI : Subsingleton Cert.Pre_finite_scores.S_.Idx := ⟨fun a b => funext fun x => x.elim0⟩
  exact ⟨fun i => finite_of_lt _ (Host.reduce_andi_all _ _ _ _ _ e1 i), fun i => finite_of_lt _ (Host.reduce_andi_all _ _ _ _ _ e2 i)⟩

/-- The attention call and its reference return the same rows when the queries and the keys are finite. -/
theorem flash_algebraic : Cert.algebraic_KernelIdeal_ReferenceIdeal_pre_finite_scores (hKernelIdeal := Cert.KernelIdeal.Gen.facts)
    (hReferenceIdeal := Cert.ReferenceIdeal.Gen.facts) (hPre_finite_scores := pre_facts) := by
  intro m g m' g' hp hag
  refine ⟨fun c => (Cert.KernelIdeal.Gen.dats m 0 c).arrAt 3 Cert.KernelIdeal.cfg0.N, Cert.KernelIdeal.Value.run_blocks m g, ?_⟩
  refine (θ_run Cert.ReferenceIdeal.defs _ _).mono (fun r h c => ⟨?_, (h c).2⟩) (Cert.ReferenceIdeal.Value.run m' g')
  obtain ⟨h0, h1, h2⟩ := hag c
  obtain ⟨hq, hk⟩ := finite_args hp c
  rw [(h c).1, Cert.ReferenceIdeal.Read.val_main_v26_eq, h0, h1, h2]
  exact (Cert.KernelIdeal.Flash.final hq hk).symm

/-- The attention's reference runs. -/
theorem reference_runs : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩) (Cert.ReferenceIdeal.Value.run m ρ)

/-- The feed-forward call's reference runs. -/
theorem reference2_runs : Cert.quiescent_Reference2Ideal (hReference2Ideal := Cert.Reference2Ideal.Gen.facts) :=
  fun m ρ _ => (θ_run Cert.Reference2Ideal.defs _ _).mono
    (fun r h => ⟨fun c => (h c).2, Idealize.ShloMosaic.sem_eq_zero_of_no_sems (by decide) r.2⟩) (Cert.Reference2Ideal.Value.run m ρ)

/-- The first layer's feed-forward call's reference runs. -/
theorem reference3_runs : Cert.quiescent_Reference3Ideal (hReference3Ideal := Cert.Reference3Ideal.Gen.facts) :=
  fun m ρ _ => (θ_run Cert.Reference3Ideal.defs _ _).mono
    (fun r h => ⟨fun c => (h c).2, Idealize.ShloMosaic.sem_eq_zero_of_no_sems (by decide) r.2⟩) (Cert.Reference3Ideal.Value.run m ρ)

/-- The sample feed-forward call's reference runs. -/
theorem reference4_runs : Cert.quiescent_Reference4Ideal (hReference4Ideal := Cert.Reference4Ideal.Gen.facts) :=
  fun m ρ _ => (θ_run Cert.Reference4Ideal.defs _ _).mono
    (fun r h => ⟨fun c => (h c).2, Idealize.ShloMosaic.sem_eq_zero_of_no_sems (by decide) r.2⟩) (Cert.Reference4Ideal.Value.run m ρ)

/-- The input projection's reference runs. -/
theorem reference5_runs : Cert.quiescent_Reference5Ideal (hReference5Ideal := Cert.Reference5Ideal.Gen.facts) :=
  fun m ρ _ => (θ_run Cert.Reference5Ideal.defs _ _).mono
    (fun r h => ⟨fun c => (h c).2.2.2.2.2, Idealize.ShloMosaic.sem_eq_zero_of_no_sems (by decide) r.2⟩) (Cert.Reference5Ideal.Value.run m ρ)

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, pre_facts,
  fun m ρ _ => Cert.Kernel.Gen.frame m ρ,
  fun m ρ _ => Cert.KernelIdeal.Gen.frame m ρ,
  fun m ρ _ => Cert.KernelIdeal.Gen.frame m ρ,
  reference_runs,
  fun m ρ _ => reference_runs m ρ trivial,
  fun m ρ _ => Cert.Kernel2.Gen.frame m ρ,
  fun m ρ _ => Cert.Kernel2Ideal.Gen.frame m ρ,
  reference2_runs,
  fun m ρ _ => Cert.Kernel3.Gen.frame m ρ,
  fun m ρ _ => Cert.Kernel3Ideal.Gen.frame m ρ,
  reference3_runs,
  fun m ρ _ => Cert.Kernel4.Gen.frame m ρ,
  fun m ρ _ => Cert.Kernel4Ideal.Gen.frame m ρ,
  reference4_runs,
  fun m ρ _ => Cert.Kernel5.Gen.frame m ρ,
  fun m ρ _ => Cert.Kernel5Ideal.Gen.frame m ρ,
  reference5_runs,
  trivial, flash_algebraic, trivial, ffn_algebraic, trivial, ffn3_algebraic, trivial, ffn4_algebraic, trivial, proj_algebraic⟩

end Cert.Proof

end
